-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 2048]⟩ ⟨2, ![32768, 2048]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 2048]⟩ ⟨2, ![32768, 2048]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x2048 : Shape := ⟨2, ![4096, 2048]⟩
abbrev S2048 : Shape := ⟨1, ![2048]⟩
abbrev S2x2048 : Shape := ⟨2, ![2, 2048]⟩
abbrev S512x2048 : Shape := ⟨2, ![512, 2048]⟩
abbrev S7x2x2048 : Shape := ⟨3, ![7, 2, 2048]⟩
abbrev S7 : Shape := ⟨1, ![7]⟩
abbrev S_ : Shape := ⟨0, ![]⟩
abbrev S512 : Shape := ⟨1, ![512]⟩
abbrev S512x1 : Shape := ⟨2, ![512, 1]⟩
abbrev S1x2048 : Shape := ⟨2, ![1, 2048]⟩
abbrev S1 : Shape := ⟨1, ![1]⟩
abbrev S1x2x2048 : Shape := ⟨3, ![1, 2, 2048]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S2x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S2x2048, .f32⟩
  | .local _ .vmem, ⟨5, _⟩ => ⟨S2x2048, .f32⟩
  | .local _ .vmem, ⟨6, _⟩ => ⟨S7x2x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev barrier0 : Sem sig := 0

abbrev nD : Nat := 8
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k0_dev1 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_15 : BitVec 32 := 1#32
  let v42 : BitVec 32 := Scalar.addi v2 c1_i32_15
  let c8_i32_16 : BitVec 32 := 8#32
  let v43 : BitVec 32 := Scalar.remsi v42 c8_i32_16
  let c1_i32_18 : BitVec 32 := 1#32
  let v44 : BitVec 32 := Scalar.muli v43 c1_i32_18
  let v45 : BitVec 32 := Scalar.addi c0_i32_19 v44
  v45.toNat
def k0_dev2 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v46 : BitVec 32 := Scalar.addi v2 c2_i32
  let c8_i32_20 : BitVec 32 := 8#32
  let v47 : BitVec 32 := Scalar.remsi v46 c8_i32_20
  let c1_i32_22 : BitVec 32 := 1#32
  let v48 : BitVec 32 := Scalar.muli v47 c1_i32_22
  let v49 : BitVec 32 := Scalar.addi c0_i32_23 v48
  v49.toNat
def k0_dev3 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v50 : BitVec 32 := Scalar.addi v2 c3_i32
  let c8_i32_24 : BitVec 32 := 8#32
  let v51 : BitVec 32 := Scalar.remsi v50 c8_i32_24
  let c1_i32_26 : BitVec 32 := 1#32
  let v52 : BitVec 32 := Scalar.muli v51 c1_i32_26
  let v53 : BitVec 32 := Scalar.addi c0_i32_27 v52
  v53.toNat
def k0_dev4 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v54 : BitVec 32 := Scalar.addi v2 c4_i32
  let c8_i32_28 : BitVec 32 := 8#32
  let v55 : BitVec 32 := Scalar.remsi v54 c8_i32_28
  let c1_i32_30 : BitVec 32 := 1#32
  let v56 : BitVec 32 := Scalar.muli v55 c1_i32_30
  let v57 : BitVec 32 := Scalar.addi c0_i32_31 v56
  v57.toNat
def k0_dev5 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v58 : BitVec 32 := Scalar.addi v2 c5_i32
  let c8_i32_32 : BitVec 32 := 8#32
  let v59 : BitVec 32 := Scalar.remsi v58 c8_i32_32
  let c1_i32_34 : BitVec 32 := 1#32
  let v60 : BitVec 32 := Scalar.muli v59 c1_i32_34
  let v61 : BitVec 32 := Scalar.addi c0_i32_35 v60
  v61.toNat
def k0_dev6 (d0 : Dev nD) : Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v62 : BitVec 32 := Scalar.addi v2 c6_i32
  let c8_i32_36 : BitVec 32 := 8#32
  let v63 : BitVec 32 := Scalar.remsi v62 c8_i32_36
  let c1_i32_38 : BitVec 32 := 1#32
  let v64 : BitVec 32 := Scalar.muli v63 c1_i32_38
  let v65 : BitVec 32 := Scalar.addi c0_i32_39 v64
  v65.toNat
def k0_dev7 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_40 : BitVec 32 := 7#32
  let v66 : BitVec 32 := Scalar.addi v2 c7_i32_40
  let c8_i32_41 : BitVec 32 := 8#32
  let v67 : BitVec 32 := Scalar.remsi v66 c8_i32_41
  let c1_i32_43 : BitVec 32 := 1#32
  let v68 : BitVec 32 := Scalar.muli v67 c1_i32_43
  let v69 : BitVec 32 := Scalar.addi c0_i32_44 v68
  v69.toNat
def k0_cond4 (i : grid0.Coords) : BitVec 1 :=
  let arg0 : BitVec 32 := BitVec.ofNat 32 (i 0).val
  let c7_i32 : BitVec 32 := 7#32
  let v38 : BitVec 1 := Scalar.cmpi .eq arg0 c7_i32
  let v39 : BitVec 32 := Scalar.extui v38
  let c0_i32_14 : BitVec 32 := 0#32
  let v40 : BitVec 1 := Scalar.cmpi .ne v39 c0_i32_14
  v40

def k0_dev8 (d0 : Dev nD) : Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_15 : BitVec 32 := 1#32
  let v41 : BitVec 32 := Scalar.addi v2 c1_i32_15
  let c8_i32_16 : BitVec 32 := 8#32
  let v42 : BitVec 32 := Scalar.remsi v41 c8_i32_16
  let c1_i32_20 : BitVec 32 := 1#32
  let v43 : BitVec 32 := Scalar.muli v42 c1_i32_20
  let v44 : BitVec 32 := Scalar.addi c0_i32_21 v43
  v44.toNat
def k0_dev9 (d0 : Dev nD) : Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v51 : BitVec 32 := Scalar.addi v2 c2_i32
  let c8_i32_24 : BitVec 32 := 8#32
  let v52 : BitVec 32 := Scalar.remsi v51 c8_i32_24
  let c1_i32_28 : BitVec 32 := 1#32
  let v53 : BitVec 32 := Scalar.muli v52 c1_i32_28
  let v54 : BitVec 32 := Scalar.addi c0_i32_29 v53
  v54.toNat
def k0_dev10 (d0 : Dev nD) : Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v61 : BitVec 32 := Scalar.addi v2 c3_i32
  let c8_i32_32 : BitVec 32 := 8#32
  let v62 : BitVec 32 := Scalar.remsi v61 c8_i32_32
  let c1_i32_36 : BitVec 32 := 1#32
  let v63 : BitVec 32 := Scalar.muli v62 c1_i32_36
  let v64 : BitVec 32 := Scalar.addi c0_i32_37 v63
  v64.toNat
def k0_dev11 (d0 : Dev nD) : Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v71 : BitVec 32 := Scalar.addi v2 c4_i32
  let c8_i32_40 : BitVec 32 := 8#32
  let v72 : BitVec 32 := Scalar.remsi v71 c8_i32_40
  let c1_i32_44 : BitVec 32 := 1#32
  let v73 : BitVec 32 := Scalar.muli v72 c1_i32_44
  let v74 : BitVec 32 := Scalar.addi c0_i32_45 v73
  v74.toNat
def k0_dev12 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v81 : BitVec 32 := Scalar.addi v2 c5_i32
  let c8_i32_48 : BitVec 32 := 8#32
  let v82 : BitVec 32 := Scalar.remsi v81 c8_i32_48
  let c1_i32_52 : BitVec 32 := 1#32
  let v83 : BitVec 32 := Scalar.muli v82 c1_i32_52
  let v84 : BitVec 32 := Scalar.addi c0_i32_53 v83
  v84.toNat
def k0_dev13 (d0 : Dev nD) : Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v91 : BitVec 32 := Scalar.addi v2 c6_i32
  let c8_i32_56 : BitVec 32 := 8#32
  let v92 : BitVec 32 := Scalar.remsi v91 c8_i32_56
  let c1_i32_60 : BitVec 32 := 1#32
  let v93 : BitVec 32 := Scalar.muli v92 c1_i32_60
  let v94 : BitVec 32 := Scalar.addi c0_i32_61 v93
  v94.toNat
def k0_dev14 (d0 : Dev nD) : Nat :=
  let c0_i32_70 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_64 : BitVec 32 := 7#32
  let v101 : BitVec 32 := Scalar.addi v2 c7_i32_64
  let c8_i32_65 : BitVec 32 := 8#32
  let v102 : BitVec 32 := Scalar.remsi v101 c8_i32_65
  let c1_i32_69 : BitVec 32 := 1#32
  let v103 : BitVec 32 := Scalar.muli v102 c1_i32_69
  let v104 : BitVec 32 := Scalar.addi c0_i32_70 v103
  v104.toNat
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S32768x2048 : Shape := ⟨2, ![32768, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S2x2048 : Shape := ⟨2, ![2, 2048]⟩

abbrev nBuf : Space → Nat
  | .hbm => 52
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .f32⟩
  | .hbm, ⟨2, _⟩ => ⟨S2048, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S_, .f32⟩
  | .hbm, ⟨7, _⟩ => ⟨S32768x1, .f32⟩
  | .hbm, ⟨8, _⟩ => ⟨S32768x1, .f32⟩
  | .hbm, ⟨9, _⟩ => ⟨S_, .i32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x2048, .f32⟩
  | .hbm, ⟨17, _⟩ => ⟨S32768x2048, .f32⟩
  | .hbm, ⟨18, _⟩ => ⟨S32768x2048, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S32768, .f32⟩
  | .hbm, ⟨24, _⟩ => ⟨S32768x1, .f32⟩
  | .hbm, ⟨25, _⟩ => ⟨S32768x1, .f32⟩
  | .hbm, ⟨26, _⟩ => ⟨S32768x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S32768x1, .f32⟩
  | .hbm, ⟨32, _⟩ => ⟨S32768x1, .f32⟩
  | .hbm, ⟨33, _⟩ => ⟨S_, .f32⟩
  | .hbm, ⟨34, _⟩ => ⟨S32768x1, .f32⟩
  | .hbm, ⟨35, _⟩ => ⟨S32768x1, .f32⟩
  | .hbm, ⟨36, _⟩ => ⟨S32768x1, .f32⟩
  | .hbm, ⟨37, _⟩ => ⟨S_, .f32⟩
  | .hbm, ⟨38, _⟩ => ⟨S32768x1, .f32⟩
  | .hbm, ⟨39, _⟩ => ⟨S32768x1, .f32⟩
  | .hbm, ⟨40, _⟩ => ⟨S32768x2048, .f32⟩
  | .hbm, ⟨41, _⟩ => ⟨S32768x2048, .f32⟩
  | .hbm, ⟨42, _⟩ => ⟨S32768x2048, .f32⟩
  | .hbm, ⟨43, _⟩ => ⟨S32768x2048, .f32⟩
  | .hbm, ⟨44, _⟩ => ⟨S32768x2048, .f32⟩
  | .hbm, ⟨45, _⟩ => ⟨S_, .f32⟩
  | .hbm, ⟨46, _⟩ => ⟨S2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S1x2048, .f32⟩
  | .hbm, ⟨51, _⟩ => ⟨S2x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_cst_1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_2 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_3 : Ref sig .tc := ⟨.hbm, 45, rfl⟩
abbrev main_v15 : Ref sig .tc := ⟨.hbm, 46, rfl⟩
abbrev main_cst_4 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩

abbrev nD : Nat := 1
abbrev τ : Topo := Topo.v7x

variable {F : FTy → Type} [FloatOps F]
-- ==== Proof.Mesh.lean ====
/-
# The eight devices' exchange: who talks to whom, the cells, the contents and the schedule

Every device adds up its own eight blocks in `acc`, then hands the sum to its seven peers and adds what the seven peers
hand it. Copy `k` (counting from 0) of device `c` goes to device `sh c k = c + k + 1` (mod 8) and fills slot `k` of that
device's `comm` buffer; slot `k` of `c` is filled by `rs c k = c - k - 1` (mod 8).

At its first grid point each device signals the barrier semaphore of its seven peers and waits for seven units of its own.
The unit device `p` sends to `sh p j` carries the right to write slot `rev j` of `p` — the one slot of `p` that `sh p j`
fills —, so that no copy can start before its target is ready. A device's barrier cell therefore has seven duties, named by
the slot number `k`: duty `k` is paid by `sh c k`, with slot `k` of `sh c k`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Pipeline.FrameBody
public import Idealize.ShloMosaic.Lib.Transfers
public import Idealize.ShloMosaic.Lib.Ring
public import Idealize.ShloMosaic.Lib.Tactic

@[expose] public section

noncomputable section

namespace Cert.ExchangeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state's algebra -/

/-- The exchange's rounds, duties named by slot numbers; beside the pipeline's own. -/
abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The mesh -/

set_option backward.proofsInPublic true in
/-- The peer that copy `k` of device `c` goes to. -/
def sh (c : Dev nD) (k : Fin 7) : Dev nD := ⟨(c.val + (k.val + 1)) % 8, Nat.mod_lt _ (by decide)⟩
set_option backward.proofsInPublic true in
/-- The peer that fills slot `k` of device `c`. -/
def rs (c : Dev nD) (k : Fin 7) : Dev nD := ⟨(c.val + (7 - k.val)) % 8, Nat.mod_lt _ (by decide)⟩
set_option backward.proofsInPublic true in
/-- The slot number seen from the other end: `sh p j` fills slot `rev j` of `p`. -/
def rev (k : Fin 7) : Fin 7 := ⟨6 - k.val, by omega⟩

theorem rev_rev (k : Fin 7) : rev (rev k) = k := by revert k; decide
theorem sh_rs (c : Dev nD) (k : Fin 7) : sh (rs c k) k = c := by revert c k; decide
theorem rs_sh (c : Dev nD) (k : Fin 7) : rs (sh c k) k = c := by revert c k; decide
theorem sh_sh_rev (c : Dev nD) (k : Fin 7) : sh (sh c k) (rev k) = c := by revert c k; decide
theorem sh_inj (c : Dev nD) : ∀ k k' : Fin 7, sh c k = sh c k' → k = k' := by revert c; decide

/-- The seven signals' targets and the seven copies' targets are the peers in order. -/
theorem sig_dev (c : Dev nD) :
    k0_dev1 c = (sh c 0).val ∧ k0_dev2 c = (sh c 1).val ∧ k0_dev3 c = (sh c 2).val ∧ k0_dev4 c = (sh c 3).val
      ∧ k0_dev5 c = (sh c 4).val ∧ k0_dev6 c = (sh c 5).val ∧ k0_dev7 c = (sh c 6).val :=
  ⟨k0_dev1_eq c, k0_dev2_eq c, k0_dev3_eq c, k0_dev4_eq c, k0_dev5_eq c, k0_dev6_eq c, k0_dev7_eq c⟩
theorem copy_dev (c : Dev nD) :
    k0_dev8 c = (sh c 0).val ∧ k0_dev9 c = (sh c 1).val ∧ k0_dev10 c = (sh c 2).val ∧ k0_dev11 c = (sh c 3).val
      ∧ k0_dev12 c = (sh c 4).val ∧ k0_dev13 c = (sh c 5).val ∧ k0_dev14 c = (sh c 6).val :=
  ⟨k0_dev8_eq c, k0_dev9_eq c, k0_dev10_eq c, k0_dev11_eq c, k0_dev12_eq c, k0_dev13_eq c, k0_dev14_eq c⟩

/-! ## Slots still to do, slots done -/

set_option backward.proofsInPublic true in
/-- The slot numbers from `j` on; -/
def from' (j : ℕ) : Finset (Fin 7) := Finset.univ.filter fun k => j ≤ k.val
set_option backward.proofsInPublic true in
/-- those below `j`. -/
def upto (j : ℕ) : Finset (Fin 7) := Finset.univ.filter fun k => k.val < j

theorem from_zero : from' 0 = Finset.univ := by decide
theorem from_seven : from' 7 = ∅ := by decide
theorem upto_zero : upto 0 = ∅ := by decide
theorem upto_seven : upto 7 = Finset.univ := by decide
theorem from_step (k : Fin 7) : from' k.val = insert k (from' (k.val + 1)) := by revert k; decide
theorem from_not_mem (k : Fin 7) : k ∉ from' (k.val + 1) := by revert k; decide
theorem upto_step (k : Fin 7) : upto (k.val + 1) = insert k (upto k.val) := by revert k; decide
theorem upto_not_mem (k : Fin 7) : k ∉ upto k.val := by revert k; decide

/-! ## Memrefs, semaphores, cells -/

abbrev accM : Memref sig .tc .vmem S2x2048 .f32 := Memref.whole cc0_scratch0
abbrev commM : Memref sig .tc .vmem S7x2x2048 .f32 := Memref.whole cc0_scratch1

theorem inb_sem (k : Fin 7) : ∀ a, (![k.val] : Fin 1 → Nat) a + S1.size a ≤ S7.size a := by revert k; decide
theorem inb_slot (k : Fin 7) : ∀ a, (![k.val, 0, 0] : Fin 3 → Nat) a + S1x2x2048.size a ≤ S7x2x2048.size a := by revert k; decide

/-- Slot `k`'s rectangle in the `comm` buffer, and the slot as a two-row buffer. -/
abbrev slotR (k : Fin 7) : Rect S7x2x2048 := Rect.unit (s := S7x2x2048) ![k.val, 0, 0] S1x2x2048.size (inb_slot k)
abbrev slotM (k : Fin 7) : Memref sig .tc .vmem S2x2048 .f32 := (commM.slice (slotR k) (fun _ => rfl)).squeeze S2x2048 squeezes_S1x2x2048_S2x2048

abbrev barS : Sem sig := (SemArray.scalar (sig.barrier 0 rfl) : Sems sig S_).sem
abbrev sendS (k : Fin 7) : DmaSem sig := ((cc0_scratch2.slice (Rect.unit (s := S7) ![k.val] S1.size (inb_sem k))).squeeze S_ squeezes_S1_S_).sem
abbrev recvS (k : Fin 7) : DmaSem sig := ((cc0_scratch3.slice (Rect.unit (s := S7) ![k.val] S1.size (inb_sem k))).squeeze S_ squeezes_S1_S_).sem

theorem sendS_val (k : Fin 7) : (sendS k).val = 5 + k.val := by fin_cases k <;> rfl
theorem recvS_val (k : Fin 7) : (recvS k).val = 12 + k.val := by fin_cases k <;> rfl

abbrev barCell (c : Dev nD) : GSem nD τ sig := ((c : Thread nD τ), .reg barS)
abbrev sendCell (c : Dev nD) (k : Fin 7) : GSem nD τ sig := ((c : Thread nD τ), .dma (sendS k))
abbrev recvCell (c : Dev nD) (k : Fin 7) : GSem nD τ sig := ((c : Thread nD τ), .dma (recvS k))

/-- The kernel's own (scoped) semaphores: sends, then receives; -/
abbrev osem : Fin 7 ⊕ Fin 7 → SemLoc sig := Sum.elim (fun k => .dma (sendS k)) (fun k => .dma (recvS k))
/-- all fifteen of the exchange's: the barrier, then those. -/
abbrev csem : Unit ⊕ (Fin 7 ⊕ Fin 7) → SemLoc sig := Sum.elim (fun _ => .reg barS) osem
abbrev CIx : Type := Dev nD × (Unit ⊕ (Fin 7 ⊕ Fin 7))
abbrev kcell (ck : CIx) : GSem nD τ sig := ((ck.1 : Thread nD τ), csem ck.2)

abbrev ixB (c : Dev nD) : CIx := (c, .inl ())
abbrev ixS (c : Dev nD) (k : Fin 7) : CIx := (c, .inr (.inl k))
abbrev ixR (c : Dev nD) (k : Fin 7) : CIx := (c, .inr (.inr k))

/-- One copy's credit. -/
abbrev N : ℕ := (accM : Memref sig .tc .vmem S2x2048 .f32).view.dmaCredit
theorem N_pos : 0 < N := View.dmaCredit_pos _ (by decide)

/-! ## Contents -/

/-- Grid point number `n` (from 0). -/
def gp (n : ℕ) : Fin cfg0.N := ⟨n % 8, by have := N_0; show n % 8 < grid0.N; omega⟩

/-- Device `c`'s block of `x`, of `dy`, at grid point `t`. -/
def xAt (c : Dev nD) (t : Fin cfg0.N) : FVec F S512x2048 .f32 := (win0_0.blk t).view.read (Elt F) (m ((c : Thread nD τ).loc main_arg0))
def dyAt (c : Dev nD) (t : Fin cfg0.N) : FVec F S512x2048 .f32 := (win0_1.blk t).view.read (Elt F) (m ((c : Thread nD τ).loc main_arg1))

/-- The accumulator of device `c` after grid point `n`. -/
def accUpTo (c : Dev nD) : ℕ → FVec F S2x2048 .f32
  | 0 => k0_pay6 (xAt m c (gp 0)) (dyAt m c (gp 0))
  | n + 1 => k0_pay1 (k0_pay5 (xAt m c (gp (n + 1))) (dyAt m c (gp (n + 1)))) (accUpTo c n)

/-- Device `c`'s own sum: after its last grid point. -/
def own (c : Dev nD) : FVec F S2x2048 .f32 := accUpTo m c 7

/-- The running total of device `c` after adding the first `n` slots. -/
def total (c : Dev nD) : ℕ → FVec F S2x2048 .f32
  | 0 => own m c
  | n + 1 => addf (total c n) (own m (rs c ⟨n % 7, Nat.mod_lt _ (by decide)⟩))

/-- The kernel's result on device `c`. -/
def outAt (c : Dev nD) : FVec F S2x2048 .f32 := total m c 7

/-- What a load of slot `k` reads off contents `f`, and as two rows. -/
abbrev slotLoad (k : Fin 7) (f : (cc0_scratch1 : Ref sig .tc).ty.Contents (Elt F)) : FVec F S1x2x2048 .f32 := commM.view.readAt (Elt F) (slotR k).toLoadRect f
abbrev slotRead (k : Fin 7) (f : (cc0_scratch1 : Ref sig .tc).ty.Contents (Elt F)) : FVec F S2x2048 .f32 := shapeCast S2x2048 (slotLoad k f) shapeCasts_S1x2x2048_S2x2048

omit [FloatOps F] in
theorem slotM_read (k : Fin 7) (f : (cc0_scratch1 : Ref sig .tc).ty.Contents (Elt F)) : (slotM k).view.read (Elt F) f = slotRead k f := rfl

omit [FloatOps F] in
/-- A copy's landing: the slot then reads what the accumulator held. -/
theorem landed_read (k : Fin 7) (fd : (cc0_scratch1 : Ref sig .tc).ty.Contents (Elt F)) (fs : (cc0_scratch0 : Ref sig .tc).ty.Contents (Elt F)) :
    slotRead k ((slotM k).view.write (Elt F) fd (accM.view.read (Elt F) fs) Finset.univ) = fs := by
  rw [← slotM_read, View.read_write_univ]
  rfl

/-- Slot `k` of device `c`, held outright at contents `f`; the accumulator of device `c` held at share `q`. -/
def slotPts (c : Dev nD) (k : Fin 7) (f : Buf (Elt F) ((slotM k).view.loc (c : Thread nD τ))) : sProp 𝕄 :=
  (slotM k).view.loc (c : Thread nD τ) ↦[(slotM k).view.set]{fullShare} f
def accPts (c : Dev nD) (q : PosShare TreeShare) (f : Buf (Elt F) (accM.view.loc (c : Thread nD τ))) : sProp 𝕄 :=
  accM.view.loc (c : Thread nD τ) ↦[accM.view.set]{q} f

/-- Slot `k` of device `c` at any contents; filled: reading its peer's sum. -/
def slotAny (c : Dev nD) (k : Fin 7) : sProp 𝕄 := iprop(∃ f, slotPts (F := F) c k f)
def slotFull (c : Dev nD) (k : Fin 7) : sProp 𝕄 := iprop(∃ f, ⌜slotRead k f = own m (rs c k)⌝ ∗ slotPts c k f)

omit [FloatOps F] in
instance slotAny_storable (c : Dev nD) (k : Fin 7) : BI.Storable (upEmb : UEmb _ 𝕄) (slotAny (F := F) c k) := by unfold slotAny slotPts; infer_instance
instance slotFull_storable (c : Dev nD) (k : Fin 7) : BI.Storable (upEmb : UEmb _ 𝕄) (slotFull (F := F) m c k) := by unfold slotFull slotPts; infer_instance
omit [FloatOps F] in
instance accPts_storable (c : Dev nD) (q) (f) : BI.Storable (upEmb : UEmb _ 𝕄) (accPts (F := F) c q f) := by unfold accPts; infer_instance

omit [FloatOps F] in
theorem accPts_eq (c : Dev nD) (q : PosShare TreeShare) (f : Buf (Elt F) ((c : Thread nD τ).loc cc0_scratch0)) :
    accPts c q f = (((c : Thread nD τ).loc cc0_scratch0) ↦{q} f : sProp 𝕄) := by unfold accPts; rw [View.set_whole]

/-- The share of the accumulator that copy `k` borrows. -/
abbrev lentShare (k : Fin 7) : PosShare TreeShare := Transfers.shareTok fullShare 7 k

/-! ## The schedule -/

/-- Which slot number a send (receive) semaphore is of. -/
abbrev IsBar (g : GSem nD τ sig) : Prop := g.1.2 = .tc ∧ g.2 = .reg barS
abbrev IsXfer (g : GSem nD τ sig) : Prop := g.1.2 = .tc ∧ ∃ k, g.2 = .dma (sendS k) ∨ g.2 = .dma (recvS k)

/-- What a DMA semaphore's landing hands device `c`: a send, the lent share of the accumulator back; a receive, the slot filled. -/
def xferPay (c : Dev nD) : SemLoc sig → sProp 𝕄
  | .dma q =>
    if h : 12 ≤ q.val then slotFull m c ⟨(q.val - 12) % 7, Nat.mod_lt _ (by decide)⟩
    else accPts c (lentShare ⟨(q.val - 5) % 7, Nat.mod_lt _ (by decide)⟩) (own m c)
  | .reg _ => iprop(emp)

instance xferPay_storable (c : Dev nD) (sm : SemLoc sig) : BI.Storable (upEmb : UEmb _ 𝕄) (xferPay (F := F) m c sm) := by
  unfold xferPay
  (repeat' split) <;> infer_instance

/-- One round: a barrier cell has seven duties of one unit; a send or receive cell one duty of a copy's credit. -/
def xRd : Rounds.Schedule (GSem nD τ sig) (Fin 7) 𝕄 where
  duties g r := if r = 0 ∧ IsBar g then Finset.univ else if r = 0 ∧ IsXfer g then {0} else ∅
  unitless _ := False
  amount g _ _ := if g.2 = .reg barS then 1 else N
  payload g _ d := if g.2 = .reg barS then slotAny (sh g.1.1 d) d else xferPay m g.1.1 g.2
  amount_pos g _ _ _ := by
    by_cases h : g.2 = .reg barS
    · rw [if_pos h]; exact Nat.one_pos
    · rw [if_neg h]; exact N_pos

instance xRd_payload_storable (g : GSem nD τ sig) (r : ℕ) (d : Fin 7) : BI.Storable (upEmb : UEmb _ 𝕄) ((xRd (F := F) m).payload g r d) := by
  show BI.Storable upEmb (if g.2 = .reg barS then slotAny (sh g.1.1 d) d else xferPay m g.1.1 g.2)
  split <;> infer_instance

section Sched
variable (c : Dev nD) (k : Fin 7)

theorem dma_ne_bar (q : DmaSem sig) : (SemLoc.dma q : SemLoc sig) ≠ .reg barS := fun h => by cases h
theorem recv_ne_send (k k' : Fin 7) : (SemLoc.dma (recvS k) : SemLoc sig) ≠ .dma (sendS k') := fun h => by
  have h' : (recvS k).val = (sendS k').val := congrArg Fin.val (SemLoc.dma.inj h)
  rw [recvS_val, sendS_val] at h'; omega
theorem recv_inj {k k' : Fin 7} (h : (SemLoc.dma (recvS k) : SemLoc sig) = .dma (recvS k')) : k = k' := by
  have h' : (recvS k).val = (recvS k').val := congrArg Fin.val (SemLoc.dma.inj h)
  rw [recvS_val, recvS_val] at h'; exact Fin.ext (by omega)
theorem send_inj {k k' : Fin 7} (h : (SemLoc.dma (sendS k) : SemLoc sig) = .dma (sendS k')) : k = k' := by
  have h' : (sendS k).val = (sendS k').val := congrArg Fin.val (SemLoc.dma.inj h)
  rw [sendS_val, sendS_val] at h'; exact Fin.ext (by omega)

theorem duties_bar : (xRd (F := F) m).duties (barCell c) 0 = Finset.univ := by dsimp only [xRd]; exact if_pos ⟨rfl, rfl, rfl⟩
theorem duties_send : (xRd (F := F) m).duties (sendCell c k) 0 = {0} := by
  dsimp only [xRd]; rw [if_neg (fun h => dma_ne_bar _ h.2.2)]; exact if_pos ⟨rfl, rfl, k, .inl rfl⟩
theorem duties_recv : (xRd (F := F) m).duties (recvCell c k) 0 = {0} := by
  dsimp only [xRd]; rw [if_neg (fun h => dma_ne_bar _ h.2.2)]; exact if_pos ⟨rfl, rfl, k, .inr rfl⟩
theorem duties_later (g : GSem nD τ sig) : ∀ r, 1 ≤ r → (xRd (F := F) m).duties g r = ∅ :=
  fun r hr => by dsimp only [xRd]; rw [if_neg fun h => by omega, if_neg fun h => by omega]

theorem amount_bar (d : Fin 7) : (xRd (F := F) m).amount (barCell c) 0 d = 1 := by dsimp only [xRd]; exact if_pos rfl
theorem amount_send (d : Fin 7) : (xRd (F := F) m).amount (sendCell c k) 0 d = N := by dsimp only [xRd]; exact if_neg (dma_ne_bar _)
theorem amount_recv (d : Fin 7) : (xRd (F := F) m).amount (recvCell c k) 0 d = N := by dsimp only [xRd]; exact if_neg (dma_ne_bar _)

theorem expect_bar : (xRd (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send : (xRd (F := F) m).expect (sendCell c k) 0 = N := by
  unfold Schedule.expect Schedule.amountOf; rw [duties_send, Finset.sum_singleton, amount_send]
theorem expect_recv : (xRd (F := F) m).expect (recvCell c k) 0 = N := by
  unfold Schedule.expect Schedule.amountOf; rw [duties_recv, Finset.sum_singleton, amount_recv]

theorem payload_bar (d : Fin 7) : (xRd (F := F) m).payload (barCell c) 0 d = slotAny (sh c d) d := by dsimp only [xRd]; exact if_pos rfl
theorem payload_send (d : Fin 7) : (xRd (F := F) m).payload (sendCell c k) 0 d = accPts c (lentShare k) (own m c) := by
  have h5 : (⟨((sendS k).val - 5) % 7, Nat.mod_lt _ (by decide)⟩ : Fin 7) = k := Fin.ext (by show ((sendS k).val - 5) % 7 = k.val; rw [sendS_val]; omega)
  dsimp only [xRd]; rw [if_neg (dma_ne_bar _)]; unfold xferPay; dsimp only
  rw [dif_neg (by rw [sendS_val]; omega), h5]
theorem payload_recv (d : Fin 7) : (xRd (F := F) m).payload (recvCell c k) 0 d = slotFull m c k := by
  have h12 : (⟨((recvS k).val - 12) % 7, Nat.mod_lt _ (by decide)⟩ : Fin 7) = k := Fin.ext (by show ((recvS k).val - 12) % 7 = k.val; rw [recvS_val]; omega)
  dsimp only [xRd]; rw [if_neg (dma_ne_bar _)]; unfold xferPay; dsimp only
  rw [dif_pos (by rw [recvS_val]; omega), h12]

/-- What the rest of a round hands over, no duty taken before. -/
theorem rest_bar : bigSep ((xRd (F := F) m).duties (barCell c) 0 \ ∅) (fun d => (xRd (F := F) m).payload (barCell c) 0 d)
    = bigSep Finset.univ fun d : Fin 7 => slotAny (F := F) (sh c d) d := by
  rw [Finset.sdiff_empty, duties_bar]; exact bigSep_congr fun d _ => payload_bar m c d
theorem rest_send : bigSep ((xRd (F := F) m).duties (sendCell c k) 0 \ ∅) (fun d => (xRd (F := F) m).payload (sendCell c k) 0 d) = accPts c (lentShare k) (own m c) := by
  rw [Finset.sdiff_empty, duties_send, bigSep_singleton, payload_send]
theorem rest_recv : bigSep ((xRd (F := F) m).duties (recvCell c k) 0 \ ∅) (fun d => (xRd (F := F) m).payload (recvCell c k) 0 d) = slotFull m c k := by
  rw [Finset.sdiff_empty, duties_recv, bigSep_singleton, payload_recv]

end Sched

/-! ## What each device owes, and the levels -/

/-- What device `c` still owes its peers' receive cells before copy `j`; their barrier cells before signal `j`; at launch. -/
def owesR (c : Dev nD) (j : ℕ) : CellTallies nD τ sig Unit := ∑ k ∈ from' j, tallyAt (recvCell (sh c k) k) () N
def owesB (c : Dev nD) (j : ℕ) : CellTallies nD τ sig Unit := ∑ k ∈ from' j, tallyAt (barCell (sh c k)) () 1
def O₀ (c : Dev nD) : CellTallies nD τ sig Unit := owesR c 0 + owesB c 0

theorem owesR_step (c : Dev nD) (k : Fin 7) : owesR c k.val = owesR c (k.val + 1) + tallyAt (recvCell (sh c k) k) () N := by
  unfold owesR; rw [from_step, Finset.sum_insert (from_not_mem k), add_comm]
theorem owesB_step (c : Dev nD) (k : Fin 7) : owesB c k.val = owesB c (k.val + 1) + tallyAt (barCell (sh c k)) () 1 := by
  unfold owesB; rw [from_step, Finset.sum_insert (from_not_mem k), add_comm]
theorem owesR_seven (c : Dev nD) : owesR c 7 = 0 := by unfold owesR; rw [from_seven, Finset.sum_empty]
theorem owesB_seven (c : Dev nD) : owesB c 7 = 0 := by unfold owesB; rw [from_seven, Finset.sum_empty]

def L (g : GSem nD τ sig) : Finset Unit := if g.1.2 = .tc then {()} else ∅
/-- Barrier cells at 1, receive cells at 2, everything else at 0. -/
def lv (g : GSem nD τ sig) (_ : Unit) : ℕ := if g.2 = .reg barS then 1 else if ∃ k, g.2 = .dma (recvS k) then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (c : Dev nD) (k : Fin 7) : lv (recvCell c k) () = 2 := by unfold lv; rw [if_neg (dma_ne_bar _), if_pos ⟨k, rfl⟩]

theorem sum_tally_pos {S : Finset (Fin 7)} {f : Fin 7 → GSem nD τ sig} {n : ℕ} {g : GSem nD τ sig} {u : Unit}
    (h : 0 < (∑ k ∈ S, tallyAt (f k) () n : CellTallies nD τ sig Unit) g u) : ∃ k, g = f k := by
  rw [Finset.sum_apply, Finsupp.finset_sum_apply] at h
  obtain ⟨k, -, hk⟩ := Finset.exists_ne_zero_of_sum_ne_zero (Nat.pos_iff_ne_zero.mp h)
  refine ⟨k, ?_⟩
  by_contra hn
  rw [tallyAt_apply, if_neg (fun h' => hn h'.1)] at hk
  exact hk rfl

theorem owesR_pos {c : Dev nD} {j : ℕ} {g : GSem nD τ sig} {u : Unit} (h : 0 < owesR c j g u) : ∃ k, g = recvCell (sh c k) k := sum_tally_pos h
theorem owesB_pos {c : Dev nD} {j : ℕ} {g : GSem nD τ sig} {u : Unit} (h : 0 < owesB c j g u) : ∃ k, g = barCell (sh c k) := sum_tally_pos h
theorem O₀_pos {c : Dev nD} {g : GSem nD τ sig} {u : Unit} (h : 0 < O₀ c g u) :
    (∃ k, g = recvCell (sh c k) k) ∨ ∃ k, g = barCell (sh c k) := by
  unfold O₀ at h
  rw [Pi.add_apply, Finsupp.add_apply] at h
  rcases Nat.eq_zero_or_pos (owesR c 0 g u) with h0 | h0
  · rw [h0, Nat.zero_add] at h; exact .inr (owesB_pos h)
  · exact .inl (owesR_pos h0)

/-- A wait on a staging semaphore is allowed whatever of its launch debt the device still owes. -/
theorem mayWait_stage (c : Dev nD) (q : DmaSem sig) (hq : ∀ k, SemLoc.dma q ≠ .dma (recvS k)) (O : CellTallies nD τ sig Unit)
    (hO : ∀ g u, 0 < O g u → (∃ k, g = recvCell (sh c k) k) ∨ ∃ k, g = barCell (sh c k)) :
    (levAts L lv : sProp 𝕄) ⊢ MayWait (c : Thread nD τ) (.dma q) () O :=
  MayOwe.of_cut (L := L) (lev := lv) 0 (fun p hp => by rw [Finset.mem_singleton.mp hp, L_tc]; exact Finset.mem_singleton_self _)
    (fun g u hg => by rcases hO g u hg with ⟨k, rfl⟩ | ⟨k, rfl⟩ <;> exact Finset.mem_singleton_self _)
    (fun p hp => by
      rw [Finset.mem_singleton.mp hp]; dsimp only [lv]
      rw [if_neg (dma_ne_bar _), if_neg (fun ⟨k, h⟩ => hq k h)])
    (fun g u hg => by
      rcases hO g u hg with ⟨k, rfl⟩ | ⟨k, rfl⟩
      · show 0 < lv (recvCell (sh c k) k) (); rw [lv_recv]; decide
      · show 0 < lv (barCell (sh c k)) (); rw [lv_bar]; decide)

/-- At its barrier wait a device owes receive credit only. -/
theorem mayWait_bar (c : Dev nD) : (levAts L lv : sProp 𝕄) ⊢ MayWait (c : Thread nD τ) (.reg barS) () (owesR c 0) :=
  MayOwe.of_cut (L := L) (lev := lv) 1 (fun p hp => by rw [Finset.mem_singleton.mp hp, L_tc]; exact Finset.mem_singleton_self _)
    (fun g u hg => by obtain ⟨k, rfl⟩ := owesR_pos hg; exact Finset.mem_singleton_self _)
    (fun p hp => by rw [Finset.mem_singleton.mp hp]; dsimp only [lv]; rw [if_pos rfl])
    (fun g u hg => by obtain ⟨k, rfl⟩ := owesR_pos hg; show 1 < lv (recvCell (sh c k) k) (); rw [lv_recv]; decide)

/-! ## The cells' records -/

/-- What every device may look up: each cell's invariant, under the name it was allocated at, and that its round 0 is open. -/
def records (K : CIx → ℕ) : sProp 𝕄 :=
  iprop((bigSep Finset.univ fun ck : CIx => cellInv ER (xRd m) (K ck) (kcell ck)) ∗ bigSep Finset.univ fun ck : CIx => reached ER (kcell ck) 0)

instance records_persistent (K : CIx → ℕ) : BI.Persistent (records m K) := by unfold records; infer_instance

theorem inv_at (K : CIx → ℕ) (ck : CIx) : records m K ⊢ cellInv ER (xRd m) (K ck) (kcell ck) := by
  unfold records; exact sep_elim_left.trans (bigSep_elim (Finset.mem_univ ck))
theorem reached_at (K : CIx → ℕ) (ck : CIx) : records m K ⊢ reached ER (kcell ck) 0 := by
  unfold records; exact sep_elim_right.trans (bigSep_elim (Finset.mem_univ ck))

end Cert.ExchangeProof

end
-- ==== Proof.Steps.lean ====
/-
# The kernel's memory operations, one rule each

Every operation of the kernel's body that touches memory, a semaphore or a peer, as a step between states of one device,
stated once for every slot number `k`: the signal to a peer, the wait at the barrier, the copy to a peer, the wait for a
peer's copy, the wait for one's own copy to have left, and the loads and stores.
-/
module

public import proofs.«01_k».proof.Proof.Mesh

@[expose] public section

noncomputable section

namespace Cert.ExchangeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- Program `p`, run by device `c`'s core inside the kernel, ends in `Q`. -/
abbrev Wp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (K : CIx → ℕ) (c : Dev nD)

/-- What device `c` owes, whichever waits it has made. -/
def owing (O : CellTallies nD τ sig Unit) : sProp 𝕄 := iprop(∃ W, owes (c : Thread nD τ) O W)

theorem bigSep_from_step (k : Fin 7) (Φ : Fin 7 → sProp 𝕄) : bigSep (from' k.val) Φ = iprop(Φ k ∗ bigSep (from' (k.val + 1)) Φ) := by
  rw [from_step]; exact bigSep_insert (from_not_mem k)
theorem bigSep_upto_step (k : Fin 7) (Φ : Fin 7 → sProp 𝕄) : bigSep (upto (k.val + 1)) Φ = iprop(Φ k ∗ bigSep (upto k.val) Φ) := by
  rw [upto_step]; exact bigSep_insert (upto_not_mem k)

/-! ## The barrier -/

/-- Before signal `j`: the rights to pay the peers' remaining barrier duties, and the slots these will hand over. -/
def sigSt (j : ℕ) : sProp 𝕄 :=
  iprop(owing c (owesR c 0 + owesB c j)
    ∗ bigSep (from' j) fun k => iprop(dutyTok ER (barCell (sh c k)) 0 (rev k) ∗ slotAny c (rev k)))

set_option maxHeartbeats 400000 in
theorem wp_signal_step (k : Fin 7) (n : Dev nD) (hn : n = sh c k) {Q : PUnit → sProp 𝕄} :
    iprop(records m K ∗ sigSt c k.val)
      ⊢ iprop((sigSt c (k.val + 1) -∗ Q ⟨⟩) -∗ Wp c (semSignalWord n barS 1#32) Q) := by
  subst hn
  unfold sigSt owing semSignalWord Wp
  rw [bigSep_from_step, owesB_step, ← add_assoc]
  iintro ⟨#HR, ⟨%W, HO⟩, ⟨Ht, Hs⟩, Hrest⟩ Hk
  iapply (Rounds.wp_signal 𝒱₀ ER (xRd m) (c : Thread nD τ) none (dst := (sh c k : Thread nD τ)) (κ := K (ixB (sh c k)))
      (d := rev k) (by rw [duties_bar]; exact Finset.mem_univ _) ((amount_bar m (sh c k) (rev k)).trans (by decide)) () (owesR c 0 + owesB c (k.val + 1)) rfl)
    $$ [HO Ht Hs]
  · isplitr; · iapply (inv_at m K (ixB (sh c k))); iexact HR
    isplitl [HO]; · iexact HO
    isplitl [Ht]; · iexact Ht
    isplitl [Hs]; · rw [payload_bar, sh_sh_rev]; iexact Hs
    iapply (reached_at m K (ixB (sh c k))); iexact HR
  iintro HO
  rw [wp_ret]; imodintro
  iapply Hk
  isplitl [HO]; · iexists W; iexact HO
  iexact Hrest

/-- Past the barrier: every peer's slot that this device is to fill, and the barrier's counter back at zero. -/
def barDone : sProp 𝕄 :=
  iprop(owing c (owesR c 0) ∗ semVal (barCell c) 0 ∗ bigSep Finset.univ fun d : Fin 7 => slotAny (F := F) (sh c d) d)

set_option maxHeartbeats 400000 in
theorem wp_bar_wait {Q : PUnit → sProp 𝕄} :
    iprop(records m K ∗ levAts L lv ∗ sigSt c 7 ∗ cred (tallyAt (barCell c) () 7) ∗ atPos ER (barCell c) 0 ∅ 0)
      ⊢ iprop((barDone c -∗ Q ⟨⟩) -∗ Wp c (semWaitWord barS 7#32) Q) := by
  unfold sigSt owing semWaitWord barDone owing Wp
  rw [owesB_seven, add_zero]
  iintro ⟨#HR, #Hlev, ⟨⟨%W, HO⟩, -⟩, Hc, Hat⟩ Hk
  ihave #HI := (inv_at m K (ixB c)) $$ HR
  iapply (Rounds.wp_wait_rest_token 𝒱₀ ER (xRd m) (c : Thread nD τ) none (κ := K (ixB c))
      (wpE_semWait_eq 𝒱₀ (c : Thread nD τ) none Set.univ) (Set.mem_univ _) () (O := owesR c 0) (W := W) (R := 0) (m := 0) (T := ∅)
      (by rw [expect_bar]; decide)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  rw [wp_ret]
  imod (Rounds.cell_close ER (xRd m) (Set.mem_univ (K (ixB c))) (fun h => h) (R := 0 + 1) (duties_later m (barCell c))) $$ [Hat] with Hz
  · isplitr; · iexact HI
    iexact Hat
  imodintro
  iapply Hk
  isplitl [HO]; · iexists _; iexact HO
  isplitl [Hz]; · iexact Hz
  iexact Hp

/-! ## The copies -/

/-- Before copy `j`: for each copy still to make, its two duties' tokens, the slot it fills and its share of the
    accumulator; for each copy made, the credit to wait for its having left. -/
def cpSt (j : ℕ) : sProp 𝕄 :=
  iprop(owing c (owesR c j)
    ∗ (bigSep (from' j) fun k => iprop((dutyTok ER (sendCell c k) 0 0 ∗ dutyTok ER (recvCell (sh c k) k) 0 0)
        ∗ slotAny (sh c k) k ∗ accPts c (lentShare k) (own m c)))
    ∗ bigSep (upto j) fun k => cred (tallyAt (sendCell c k) () N))

set_option maxHeartbeats 400000 in
theorem wp_copy_step (k : Fin 7) (n : Dev nD) (hn : n = sh c k) {hsc : (slotM k).view.ref.isScScratch = false}
    {hsrc : (accM : Memref sig .tc .vmem S2x2048 .f32).view.WordExact} {hdst : (slotM k).view.WordExact}
    {hsem : DmaTarget.Typed .vmem (.dma (recvS k)) (.remote (Dev.tc n : Thread nD τ) (slotM k) (.dma (sendS k)) hsc)}
    {Q : PUnit → sProp 𝕄} :
    iprop(records m K ∗ cpSt m c k.val)
      ⊢ iprop((cpSt m c (k.val + 1) -∗ Q ⟨⟩)
        -∗ Wp c (Prog.lift (.enqueueDma accM (.remote (Dev.tc n : Thread nD τ) (slotM k) (.dma (sendS k)) hsc) (.dma (recvS k)) hsrc hdst hsem)) Q) := by
  subst hn
  unfold cpSt owing Prog.lift Wp
  rw [bigSep_from_step, owesR_step, bigSep_upto_step]
  unfold slotAny slotPts accPts
  iintro ⟨#HR, ⟨%W, HO⟩, ⟨⟨⟨Ht1, Ht2⟩, ⟨%fd, Hs⟩, Ha⟩, Hrest⟩, Hdone⟩ Hk
  iapply (Rounds.wp_send_pointsTo 𝒱₀ ER (xRd m) (c : Thread nD τ) none (κ₁ := K (ixS c k)) (κ₂ := K (ixR (sh c k) k))
    (r₁ := 0) (r₂ := 0) (d₁ := 0) (d₂ := 0) (fd := fd)
    (by rw [duties_send]; exact Finset.mem_singleton_self _) (by rw [duties_recv]; exact Finset.mem_singleton_self _)
    () () N rfl (amount_send m c k 0) (amount_recv m (sh c k) k 0) (owesR c (k.val + 1)) rfl (W := W)
    (by rw [payload_send]; exact BI.Entails.refl _)
    (by
      rw [payload_recv]; unfold slotFull slotPts; rw [rs_sh]
      iintro H; iexists _; isplitr
      · ipureintro; exact landed_read k fd (own m c)
      · iexact H)) $$ [HO Ht1 Ht2 Hs Ha]
  · isplitr; · iapply (inv_at m K (ixS c k)); iexact HR
    isplitr; · iapply (inv_at m K (ixR (sh c k) k)); iexact HR
    isplitl [Ha]; · iexact Ha
    isplitl [Hs]; · iexact Hs
    isplitl [HO]; · iexact HO
    isplitl [Ht1]; · iexact Ht1
    isplitr; · iapply (reached_at m K (ixS c k)); iexact HR
    isplitl [Ht2]; · iexact Ht2
    iapply (reached_at m K (ixR (sh c k) k)); iexact HR
  iintro ⟨Hc, HO⟩
  rw [wp_ret]; imodintro
  iapply Hk
  isplitl [HO]; · iexists W; iexact HO
  isplitl [Hrest]; · iexact Hrest
  isplitl [Hc]; · iexact Hc
  iexact Hdone

/-! ## Waiting for the peers' copies -/

/-- Before the wait for slot `j`: for each slot still to come, this device's position at its cell and the credit; for each
    slot arrived, the cell's counter at zero and the slot, filled. -/
def rvSt (j : ℕ) : sProp 𝕄 :=
  iprop(owing c 0
    ∗ (bigSep (from' j) fun k => iprop(atPos ER (recvCell c k) 0 ∅ 0 ∗ cred (tallyAt (recvCell c k) () N)))
    ∗ bigSep (upto j) fun k => iprop(semVal (recvCell c k) 0 ∗ slotFull m c k))

set_option maxHeartbeats 400000 in
theorem wp_recv_step (k : Fin 7) {hsrc : (accM : Memref sig .tc .vmem S2x2048 .f32).view.WordExact} {hdst : (slotM k).view.WordExact} {Q : PUnit → sProp 𝕄} :
    iprop(records m K ∗ rvSt m c k.val)
      ⊢ iprop((rvSt m c (k.val + 1) -∗ Q ⟨⟩) -∗ Wp c (Prog.lift (.waitDma2 (recvS k) accM (slotM k) hsrc hdst)) Q) := by
  unfold rvSt owing Prog.lift Wp
  rw [bigSep_from_step, bigSep_upto_step]
  iintro ⟨#HR, ⟨%W, HO⟩, ⟨⟨Hat, Hc⟩, Hrest⟩, Hdone⟩ Hk
  ihave #HI := (inv_at m K (ixR c k)) $$ HR
  iapply (Rounds.wp_wait_rest_token 𝒱₀ ER (xRd m) (c : Thread nD τ) none (κ := K (ixR c k))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv m c k)) $$ Hpay
  rw [wp_ret]
  imod (Rounds.cell_close ER (xRd m) (Set.mem_univ (K (ixR c k))) (fun h => h) (R := 0 + 1) (duties_later m (recvCell c k))) $$ [Hat] with Hz
  · isplitr; · iexact HI
    iexact Hat
  imodintro
  iapply Hk
  isplitl [HO]; · iexists _; iexact HO
  isplitl [Hrest]; · iexact Hrest
  isplitl [Hz Hp]; · isplitl [Hz] <;> iassumption
  iexact Hdone

/-- The load of the slot that arrived last: its peer's sum. -/
theorem wp_slot_load (k : Fin 7) {j : ℕ} (hj : j = k.val + 1) {hl : (commM : Memref sig .tc .vmem S7x2x2048 .f32).view.LoadsAt (slotR k).toLoadRect}
    {Q : Vec F S1x2x2048 .f32 → sProp 𝕄} :
    rvSt m c j
      ⊢ iprop((∀ v : FVec F S1x2x2048 .f32, ⌜shapeCast S2x2048 v shapeCasts_S1x2x2048_S2x2048 = own m (rs c k)⌝ -∗ rvSt m c j -∗ Q v)
        -∗ Wp c (α := Vec F S1x2x2048 .f32) (Prog.lift (.load commM (slotR k).toLoadRect hl)) Q) := by
  subst hj
  unfold rvSt Prog.lift Wp slotFull
  rw [bigSep_upto_step]
  iintro ⟨HO, Hrest, ⟨Hz, ⟨%f, %hf, Hs⟩⟩, Hdone⟩ Hk
  unfold slotPts
  iapply (wp_load 𝒱₀ (c : Thread nD τ) none Set.univ (m := commM)
    (by rw [Memref.set_view_squeeze]; exact subset_of_eq (View.set_slice _ _).symm)) $$ Hs
  iintro Hs
  rw [wp_ret]; imodintro
  ispecialize Hk $$ %(slotLoad k f) %hf
  iapply Hk
  isplitl [HO]; · iexact HO
  isplitl [Hrest]; · iexact Hrest
  isplitl [Hz Hs]
  · isplitl [Hz]; · iexact Hz
    iexists f; isplitr; · (ipureintro; exact hf)
    iexact Hs
  iexact Hdone

/-! ## Waiting for one's own copies to have left -/

/-- Before the wait for copy `j` to have left: likewise, the share of the accumulator coming back. -/
def sdSt (j : ℕ) : sProp 𝕄 :=
  iprop(owing c 0
    ∗ (bigSep (from' j) fun k => iprop(atPos ER (sendCell c k) 0 ∅ 0 ∗ cred (tallyAt (sendCell c k) () N)))
    ∗ bigSep (upto j) fun k => iprop(semVal (sendCell c k) 0 ∗ accPts c (lentShare k) (own m c)))

set_option maxHeartbeats 400000 in
theorem wp_sent_step (k : Fin 7) {hsrc : (slotM k).view.WordExact} {hdst : (accM : Memref sig .tc .vmem S2x2048 .f32).view.WordExact} {Q : PUnit → sProp 𝕄} :
    iprop(records m K ∗ sdSt m c k.val)
      ⊢ iprop((sdSt m c (k.val + 1) -∗ Q ⟨⟩) -∗ Wp c (Prog.lift (.waitDma2 (sendS k) (slotM k) accM hsrc hdst)) Q) := by
  unfold sdSt owing Prog.lift Wp
  rw [bigSep_from_step, bigSep_upto_step]
  iintro ⟨#HR, ⟨%W, HO⟩, ⟨⟨Hat, Hc⟩, Hrest⟩, Hdone⟩ Hk
  ihave #HI := (inv_at m K (ixS c k)) $$ HR
  iapply (Rounds.wp_wait_rest_token 𝒱₀ ER (xRd m) (c : Thread nD τ) none (κ := K (ixS c k))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send m c k)) $$ Hpay
  rw [wp_ret]
  imod (Rounds.cell_close ER (xRd m) (Set.mem_univ (K (ixS c k))) (fun h => h) (R := 0 + 1) (duties_later m (sendCell c k))) $$ [Hat] with Hz
  · isplitr; · iexact HI
    iexact Hat
  imodintro
  iapply Hk
  isplitl [HO]; · iexists _; iexact HO
  isplitl [Hrest]; · iexact Hrest
  isplitl [Hz Hp]; · isplitl [Hz] <;> iassumption
  iexact Hdone

/-! ## Whole loads and stores -/

theorem hz2 : (![0, 0] : Fin 2 → Nat) = fun _ => 0 := funext fun a => by fin_cases a <;> rfl

omit [FloatOps F] in
/-- A load of everything under a view reads what the view reads; a store of everything leaves what was stored. -/
theorem readAt_zero {s : Shape} {e : EltTy} (M : Memref sig .tc .vmem s e) {off : Fin s.rank → ℕ} (h : off = fun _ => 0)
    (inb : ∀ a, off a + s.size a ≤ s.size a) (f : M.view.ty.Contents (Elt F)) :
    M.view.readAt (Elt F) (Rect.unit off s.size inb).toLoadRect f = M.view.read (Elt F) f := by
  subst h; exact View.ld_unit_zero rfl inb (M.view.read (Elt F) f)

/-- A whole load of a held buffer, at any share; -/
theorem wp_owns_load {s : Shape} (M : Memref sig .tc .vmem s .f32) {off : Fin s.rank → ℕ} (h : off = fun _ => 0)
    (inb : ∀ a, off a + s.size a ≤ s.size a) {hl : M.view.LoadsAt (Rect.unit off s.size inb).toLoadRect} {q : PosShare TreeShare} {X : FVec F s .f32}
    {Q : Vec F s .f32 → sProp 𝕄} :
    (owns (c : Thread nD τ) M q X : sProp 𝕄)
      ⊢ iprop((owns (c : Thread nD τ) M q X -∗ Q X) -∗ Wp c (α := Vec F s .f32) (Prog.lift (.load M (Rect.unit off s.size inb).toLoadRect hl)) Q) := by
  unfold owns Prog.lift Wp
  iintro ⟨%f, %hf, H⟩ Hk
  iapply (wp_load 𝒱₀ (c : Thread nD τ) none Set.univ (m := M) (View.setOn_subset_set _ _)) $$ H
  iintro H
  rw [wp_ret, readAt_zero M h inb f, hf]; imodintro
  iapply Hk
  iexists f; isplitr; · (ipureintro; exact hf)
  iexact H

/-- a whole store of a buffer held outright. -/
theorem wp_owns_store {s : Shape} (M : Memref sig .tc .vmem s .f32) {off : Fin s.rank → ℕ} (h : off = fun _ => 0)
    (inb : ∀ a, off a + s.size a ≤ s.size a) {w X : FVec F s .f32} {hx : (M.access (Rect.unit off s.size inb)).Stores Finset.univ}
    {hm : (Finset.univ : Finset (Rect.unit off s.size inb).shape.Idx) = Finset.univ ∨ ∀ a, (Rect.unit off s.size inb).stride a = 1}
    {Q : PUnit → sProp 𝕄} :
    (owns (c : Thread nD τ) M fullShare X : sProp 𝕄)
      ⊢ iprop((owns (c : Thread nD τ) M fullShare w -∗ Q ⟨⟩) -∗ Wp c (Prog.lift (.store M (Rect.unit off s.size inb) w Finset.univ hx hm)) Q) := by
  unfold owns Prog.lift Wp
  iintro ⟨%f, %hf, H⟩ Hk
  iapply (wp_store 𝒱₀ (c : Thread nD τ) none Set.univ (m := M) (r := Rect.unit off s.size inb) (Mk := Finset.univ) (View.set_slice_subset _ _)) $$ H
  iintro H
  rw [wp_ret]; imodintro
  iapply Hk
  iexists _; isplitr
  · ipureintro
    exact (readAt_zero M h inb _).symm.trans (View.read_write_univ (v := M.access (Rect.unit off s.size inb)) f w)
  iexact H

omit [FloatOps F] in
/-- The accumulator held at share `q`, in the two ways of writing it. -/
theorem accPts_owns (q : PosShare TreeShare) (f : FVec F S2x2048 .f32) : (owns (c : Thread nD τ) accM q f : sProp 𝕄) ⊣⊢ accPts c q f := by
  unfold owns accPts
  constructor
  · iintro ⟨%g, %hg, H⟩
    have e : g = f := hg
    subst e; iexact H
  · iintro H; iexists f; isplitr; · (ipureintro; rfl)
    iexact H

end Cert.ExchangeProof

end
-- ==== Proof.Parts.lean ====
/-
# The kernel's body, part by part

What each stretch of the kernel's body does between the states the step rules speak of: the entry rendezvous, the block's
partial sums, the seven copies, the seven additions, and the waits for the copies to have left.
-/
module

public import proofs.«01_k».proof.Proof.Steps

@[expose] public section

noncomputable section

namespace Cert.ExchangeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : CIx → ℕ) (c : Dev nD)

/-! ## What a stretch needs besides the step states -/

/-- Positions and credits at the cells not waited for yet. -/
def rvTodo : sProp 𝕄 := bigSep Finset.univ fun k : Fin 7 => iprop(atPos ER (recvCell c k) 0 ∅ 0 ∗ cred (tallyAt (recvCell c k) () N))
def sdCreds : sProp 𝕄 := bigSep Finset.univ fun k : Fin 7 => cred (tallyAt (sendCell c k) () N)
def sdTodo : sProp 𝕄 := bigSep Finset.univ fun k : Fin 7 => iprop(atPos ER (sendCell c k) 0 ∅ 0 ∗ cred (tallyAt (sendCell c k) () N))
/-- The cells done with. -/
def rvDone : sProp 𝕄 := bigSep Finset.univ fun k : Fin 7 => iprop(semVal (recvCell c k) 0 ∗ slotFull m c k)
def sdDone : sProp 𝕄 := bigSep Finset.univ fun k : Fin 7 => iprop(semVal (sendCell c k) 0 ∗ accPts c (lentShare k) (own m c))

theorem cp_end {j : ℕ} (hj : j = 7) : cpSt m c j ⊢ iprop(owing c 0 ∗ sdCreds (F := F) c) := by
  subst hj; unfold cpSt sdCreds; rw [owesR_seven, upto_seven]
  iintro ⟨H, -, H2⟩; isplitl [H] <;> iassumption
theorem rv_start : iprop(owing c 0 ∗ rvTodo (F := F) c) ⊢ rvSt m c 0 := by
  unfold rvSt rvTodo; rw [from_zero, upto_zero]
  iintro ⟨H, H2⟩; isplitl [H]; · iexact H
  isplitl [H2]; · iexact H2
  rw [bigSep_empty]; iempintro
theorem rv_end {j : ℕ} (hj : j = 7) : rvSt m c j ⊢ iprop(owing c 0 ∗ rvDone m c) := by
  subst hj; unfold rvSt rvDone; rw [upto_seven]
  iintro ⟨H, -, H2⟩; isplitl [H] <;> iassumption
theorem sd_start : iprop(owing c 0 ∗ sdTodo (F := F) c) ⊢ sdSt m c 0 := by
  unfold sdSt sdTodo; rw [from_zero, upto_zero]
  iintro ⟨H, H2⟩; isplitl [H]; · iexact H
  isplitl [H2]; · iexact H2
  rw [bigSep_empty]; iempintro
theorem sd_end {j : ℕ} (hj : j = 7) : sdSt m c j ⊢ iprop(owing c 0 ∗ sdDone m c) := by
  subst hj; unfold sdSt sdDone; rw [upto_seven]
  iintro ⟨H, -, H2⟩; isplitl [H] <;> iassumption

section Parts

variable (i : grid0.Coords) {a1 : Memref sig .tc .vmem S512x2048 .f32} (h1 : a1.IsWhole) {a2 : Memref sig .tc .vmem S512x2048 .f32} (h2 : a2.IsWhole)
  {a3 : Memref sig .tc .vmem S2x2048 .f32} (h3 : a3.IsWhole) (v2 : BitVec 32)

abbrev hacc : (accM : Memref sig .tc .vmem S2x2048 .f32).IsWhole := Memref.isWhole_whole _
abbrev hcomm : (commM : Memref sig .tc .vmem S7x2x2048 .f32).IsWhole := Memref.isWhole_whole _

/-- The first five signals. -/
theorem part1_spec (hc : k0_cond1 i = 1#1) {Q : Sems sig S_ → sProp 𝕄} :
    iprop(records m K ∗ sigSt c 0)
      ⊢ iprop((sigSt c 5 -∗ Q (SemArray.scalar (sig.barrier 0 rfl)))
        -∗ Wp c (k0_part1 (F := F) i a1 h1 a2 h2 a3 h3 accM hacc commM hcomm cc0_scratch2 cc0_scratch3 c v2 hc) Q) := by
  rw [k0_part1_eq_skeleton]; unfold k0_part1_skel Wp
  simp only [wp_bind, Prog.pure_eq_ret]
  obtain ⟨d1, d2, d3, d4, d5, -, -⟩ := sig_dev c
  iintro ⟨#HR, H⟩ Hk
  iapply (wp_signal_step m K c 0 _ (Fin.ext d1)) $$ [H]; · (isplitr; · iexact HR); iexact H
  iintro H
  iapply (wp_signal_step m K c 1 _ (Fin.ext d2)) $$ [H]; · (isplitr; · iexact HR); iexact H
  iintro H
  iapply (wp_signal_step m K c 2 _ (Fin.ext d3)) $$ [H]; · (isplitr; · iexact HR); iexact H
  iintro H
  iapply (wp_signal_step m K c 3 _ (Fin.ext d4)) $$ [H]; · (isplitr; · iexact HR); iexact H
  iintro H
  iapply (wp_signal_step m K c 4 _ (Fin.ext d5)) $$ [H]; · (isplitr; · iexact HR); iexact H
  iintro H
  rw [wp_ret]; imodintro
  iapply Hk; iexact H

/-- Copies 0, 1, 2; -/
theorem part2_spec (hc : k0_cond4 i = 1#1) {Q : (Σ' (v42 : BitVec 32) (v52 : BitVec 32), BitVec 32) → sProp 𝕄} :
    iprop(records m K ∗ cpSt m c 0)
      ⊢ iprop((∀ r, cpSt m c 3 -∗ Q r)
        -∗ Wp c (k0_part2 (F := F) i a1 h1 a2 h2 a3 h3 accM hacc commM hcomm cc0_scratch2 cc0_scratch3 c v2 hc) Q) := by
  rw [k0_part2_eq_skeleton]; unfold k0_part2_skel Wp
  simp only [wp_bind, Prog.pure_eq_ret]
  obtain ⟨d1, d2, d3, -⟩ := copy_dev c
  iintro ⟨#HR, H⟩ Hk
  iapply (wp_copy_step m K c 0 _ (Fin.ext d1)) $$ [H]; · (isplitr; · iexact HR); iexact H
  iintro H
  iapply (wp_copy_step m K c 1 _ (Fin.ext d2)) $$ [H]; · (isplitr; · iexact HR); iexact H
  iintro H
  iapply (wp_copy_step m K c 2 _ (Fin.ext d3)) $$ [H]; · (isplitr; · iexact HR); iexact H
  iintro H
  rw [wp_ret]; imodintro
  iapply Hk; iexact H

/-- copies 3, 4, 5. -/
theorem part3_spec (hc : k0_cond4 i = 1#1) {Q : (Σ' (v72 : BitVec 32) (v82 : BitVec 32), BitVec 32) → sProp 𝕄} :
    iprop(records m K ∗ cpSt m c 3)
      ⊢ iprop((∀ r, cpSt m c 6 -∗ Q r)
        -∗ Wp c (k0_part3 (F := F) i a1 h1 a2 h2 a3 h3 accM hacc commM hcomm cc0_scratch2 cc0_scratch3 c v2 hc) Q) := by
  rw [k0_part3_eq_skeleton]; unfold k0_part3_skel Wp
  simp only [wp_bind, Prog.pure_eq_ret]
  obtain ⟨-, -, -, d4, d5, d6, -⟩ := copy_dev c
  iintro ⟨#HR, H⟩ Hk
  iapply (wp_copy_step m K c 3 _ (Fin.ext d4)) $$ [H]; · (isplitr; · iexact HR); iexact H
  iintro H
  iapply (wp_copy_step m K c 4 _ (Fin.ext d5)) $$ [H]; · (isplitr; · iexact HR); iexact H
  iintro H
  iapply (wp_copy_step m K c 5 _ (Fin.ext d6)) $$ [H]; · (isplitr; · iexact HR); iexact H
  iintro H
  rw [wp_ret]; imodintro
  iapply Hk; iexact H

/-- Copy 6, the accumulator read back, and slots 0 and 1 waited for; the first addition. -/
theorem part4_spec (hc : k0_cond4 i = 1#1) (w1 w2 : BitVec 32) (q : PosShare TreeShare) {Q : (Σ' (v102 : BitVec 32), FVec F S2x2048 .f32) → sProp 𝕄} :
    iprop(records m K ∗ cpSt m c 6 ∗ accPts c q (own m c) ∗ rvTodo c)
      ⊢ iprop((∀ r, ⌜r.2 = total m c 1⌝ -∗ (sdCreds c ∗ accPts c q (own m c) ∗ rvSt m c 2) -∗ Q r)
        -∗ Wp c (k0_part4 (F := F) i a1 h1 a2 h2 a3 h3 accM hacc commM hcomm cc0_scratch2 cc0_scratch3 c v2 hc w1 w2) Q) := by
  rw [k0_part4_eq_skeleton]; unfold k0_part4_skel Wp
  simp only [wp_bind, Prog.pure_eq_ret]
  obtain ⟨-, -, -, -, -, -, d7⟩ := copy_dev c
  iintro ⟨#HR, H, Ha, Hv⟩ Hk
  iapply (wp_copy_step m K c 6 _ (Fin.ext d7)) $$ [H]; · (isplitr; · iexact HR); iexact H
  iintro H
  ihave H := (cp_end m c (j := (6 : Fin 7).val + 1) rfl) $$ H
  icases H with ⟨HO, Hc⟩
  ihave Ha := (accPts_owns c q (own m c)).2 $$ Ha
  iapply (wp_owns_load c accM hz2 _) $$ Ha
  iintro Ha
  ihave Ha := (accPts_owns c q (own m c)).1 $$ Ha
  ihave H := (rv_start m c) $$ [HO Hv]; · isplitl [HO] <;> iassumption
  iapply (wp_recv_step m K c 0) $$ [H]; · (isplitr; · iexact HR); iexact H
  iintro H
  iapply (wp_slot_load m c 0 rfl) $$ H
  iintro %v %hv H
  iapply (wp_recv_step m K c 1) $$ [H]; · (isplitr; · iexact HR); iexact H
  iintro H
  rw [wp_ret]; imodintro
  iapply Hk
  · ipureintro; unfold k0_pay2; dsimp only; rw [hv]; rfl
  isplitl [Hc]; · iexact Hc
  isplitl [Ha]; · iexact Ha
  iexact H

/-- Slots 1, 2, 3 added, slots 2, 3, 4 waited for. -/
theorem part5_spec (w1 w2 w3 : BitVec 32) {Q : FVec F S2x2048 .f32 → sProp 𝕄} :
    iprop(records m K ∗ rvSt m c 2)
      ⊢ iprop((rvSt m c 5 -∗ Q (total m c 4))
        -∗ Wp c (k0_part5 (F := F) i a1 h1 a2 h2 a3 h3 accM hacc commM hcomm cc0_scratch2 cc0_scratch3 w1 w2 w3 (total m c 1)) Q) := by
  rw [k0_part5_eq_skeleton]; unfold k0_part5_skel Wp
  simp only [wp_bind, Prog.pure_eq_ret]
  iintro ⟨#HR, H⟩ Hk
  iapply (wp_slot_load m c 1 (j := 2) rfl) $$ H
  iintro %va %ha H
  iapply (wp_recv_step m K c 2) $$ [H]; · (isplitr; · iexact HR); iexact H
  iintro H
  iapply (wp_slot_load m c 2 rfl) $$ H
  iintro %vb %hb H
  iapply (wp_recv_step m K c 3) $$ [H]; · (isplitr; · iexact HR); iexact H
  iintro H
  iapply (wp_slot_load m c 3 rfl) $$ H
  iintro %vc %hc H
  iapply (wp_recv_step m K c 4) $$ [H]; · (isplitr; · iexact HR); iexact H
  iintro H
  rw [wp_ret]; imodintro
  unfold k0_pay3; dsimp only
  rw [ha, hb, hc, show addf (addf (addf (total m c 1) (own m (rs c 1))) (own m (rs c 2))) (own m (rs c 3)) = total m c 4 from rfl]
  iapply Hk; iexact H

/-- The last three slots added, the total stored, and the first copy waited out. -/
theorem part6_spec (w1 w2 : BitVec 32) (X : FVec F S2x2048 .f32) {Q : PUnit → sProp 𝕄} :
    iprop(records m K ∗ rvSt m c 5 ∗ sdTodo c ∗ owns (c : Thread nD τ) a3 fullShare X)
      ⊢ iprop((rvDone m c ∗ sdSt m c 1 ∗ owns (c : Thread nD τ) a3 fullShare (outAt m c) -∗ Q ⟨⟩)
        -∗ Wp c (k0_part6 (F := F) i a1 h1 a2 h2 a3 h3 accM hacc commM hcomm cc0_scratch2 cc0_scratch3 w1 w2 (total m c 4)) Q) := by
  rw [k0_part6_eq_skeleton]; unfold k0_part6_skel Wp
  simp only [wp_bind, Prog.pure_eq_ret]
  iintro ⟨#HR, H, Hs, Ho⟩ Hk
  iapply (wp_slot_load m c 4 (j := 5) rfl) $$ H
  iintro %va %ha H
  iapply (wp_recv_step m K c 5) $$ [H]; · (isplitr; · iexact HR); iexact H
  iintro H
  iapply (wp_slot_load m c 5 rfl) $$ H
  iintro %vb %hb H
  iapply (wp_recv_step m K c 6) $$ [H]; · (isplitr; · iexact HR); iexact H
  iintro H
  iapply (wp_slot_load m c 6 rfl) $$ H
  iintro %vc %hc H
  ihave H := (rv_end m c (j := (6 : Fin 7).val + 1) rfl) $$ H
  icases H with ⟨HO, Hv⟩
  iapply (wp_owns_load c a3 hz2 _) $$ Ho
  iintro Ho
  iapply (wp_owns_store c a3 hz2 _) $$ Ho
  iintro Ho
  ihave H := (sd_start m c) $$ [HO Hs]; · isplitl [HO] <;> iassumption
  iapply (wp_sent_step m K c 0) $$ [H]; · (isplitr; · iexact HR); iexact H
  iintro H
  rw [wp_ret]; imodintro
  unfold k0_pay4; dsimp only
  rw [ha, hb, hc]
  iapply Hk
  isplitl [Hv]; · iexact Hv
  isplitl [H]; · iexact H
  iexact Ho

/-- Copies 1 to 5 waited out. -/
theorem part7_spec {Q : PUnit → sProp 𝕄} :
    iprop(records m K ∗ sdSt m c 1)
      ⊢ iprop((sdSt m c 6 -∗ Q ⟨⟩)
        -∗ Wp c (k0_part7 (F := F) i a1 h1 a2 h2 a3 h3 accM hacc commM hcomm cc0_scratch2 cc0_scratch3) Q) := by
  rw [k0_part7_eq_skeleton]; unfold k0_part7_skel Wp
  simp only [wp_bind, Prog.pure_eq_ret]
  iintro ⟨#HR, H⟩ Hk
  iapply (wp_sent_step m K c 1) $$ [H]; · (isplitr; · iexact HR); iexact H
  iintro H
  iapply (wp_sent_step m K c 2) $$ [H]; · (isplitr; · iexact HR); iexact H
  iintro H
  iapply (wp_sent_step m K c 3) $$ [H]; · (isplitr; · iexact HR); iexact H
  iintro H
  iapply (wp_sent_step m K c 4) $$ [H]; · (isplitr; · iexact HR); iexact H
  iintro H
  iapply (wp_sent_step m K c 5) $$ [H]; · (isplitr; · iexact HR); iexact H
  iintro H
  rw [wp_ret]; imodintro
  iapply Hk; iexact H

end Parts

end Cert.ExchangeProof

end
-- ==== Proof.Body.lean ====
/-
# The kernel's body at the three kinds of grid point

At the first point the devices meet and each stores its first partial; at the points after it the partial is added; at the
last the sums are exchanged, added in slot order and stored to the result's window.
-/
module

public import proofs.«01_k».proof.Proof.Parts

@[expose] public section

noncomputable section

namespace Cert.ExchangeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : CIx → ℕ) (c : Dev nD)

/-! ## The launch's ghost state -/

/-- What the rendezvous uses up: the rights to pay the peers' barrier duties, the credit for the seven units and the position
    at this device's own barrier cell. -/
def barGhost : sProp 𝕄 :=
  iprop((bigSep Finset.univ fun k : Fin 7 => dutyTok ER (barCell (sh c k)) 0 (rev k)) ∗ cred (tallyAt (barCell c) () 7) ∗ atPos ER (barCell c) 0 ∅ 0)
/-- What the exchange uses up. -/
def exGhost : sProp 𝕄 :=
  iprop((bigSep Finset.univ fun k : Fin 7 => iprop(dutyTok ER (sendCell c k) 0 0 ∗ dutyTok ER (recvCell (sh c k) k) 0 0))
    ∗ rvTodo c ∗ bigSep Finset.univ fun k : Fin 7 => atPos ER (sendCell c k) 0 ∅ 0)
/-- Device `c`'s own slots, and the peers' slots it is to fill. -/
def mySlots : sProp 𝕄 := bigSep Finset.univ fun k : Fin 7 => slotAny (F := F) c k
def peerSlots : sProp 𝕄 := bigSep Finset.univ fun k : Fin 7 => slotAny (F := F) (sh c k) k

/-- Slot numbers seen from the other end, as a permutation. -/
def revEquiv : Fin 7 ≃ Fin 7 := ⟨rev, rev, rev_rev, rev_rev⟩

theorem sig_start : iprop(owing c (O₀ c) ∗ (bigSep Finset.univ fun k : Fin 7 => dutyTok ER (barCell (sh c k)) 0 (rev k)) ∗ mySlots c)
    ⊢ sigSt (F := F) c 0 := by
  unfold sigSt mySlots O₀
  rw [from_zero, bigSep_sep', bigSep_univ_equiv revEquiv fun k => slotAny (F := F) c k]
  iintro ⟨HO, Ht, Hs⟩
  isplitl [HO]; · iexact HO
  isplitl [Ht]; · iexact Ht
  iexact Hs

theorem cp_start : iprop(owing c (owesR c 0) ∗ (bigSep Finset.univ fun k : Fin 7 => iprop(dutyTok ER (sendCell c k) 0 0 ∗ dutyTok ER (recvCell (sh c k) k) 0 0))
      ∗ peerSlots c ∗ bigSep Finset.univ fun k : Fin 7 => accPts c (lentShare k) (own m c)) ⊢ cpSt m c 0 := by
  unfold cpSt peerSlots
  rw [from_zero, upto_zero, bigSep_empty,
    bigSep_sep' Finset.univ (fun k => iprop(dutyTok ER (sendCell c k) 0 0 ∗ dutyTok ER (recvCell (sh c k) k) 0 0)) (fun k => iprop(slotAny (F := F) (sh c k) k ∗ accPts c (lentShare k) (own m c))),
    bigSep_sep' Finset.univ (fun k => slotAny (F := F) (sh c k) k)]
  iintro ⟨HO, Ht, Hs, Ha⟩
  isplitl [HO]; · iexact HO
  isplitl [Ht Hs Ha]
  · isplitl [Ht]; · iexact Ht
    isplitl [Hs] <;> iassumption
  iempintro

/-- The accumulator split into what stays and what the seven copies borrow. -/
theorem acc_split (f : FVec F S2x2048 .f32) :
    accPts c fullShare f ⊣⊢ iprop(accPts c (Transfers.shareDrop fullShare 7) f ∗ bigSep Finset.univ fun k : Fin 7 => accPts (F := F) c (lentShare k) f) := by
  unfold accPts; exact Transfers.pointsTo_toks fullShare 7

theorem sd_todo : iprop((bigSep Finset.univ fun k : Fin 7 => atPos ER (sendCell c k) 0 ∅ 0) ∗ sdCreds c) ⊢ sdTodo (F := F) c := by
  unfold sdTodo sdCreds; rw [bigSep_sep']

theorem sd_done : sdDone m c ⊢ iprop((bigSep Finset.univ fun k : Fin 7 => semVal (sendCell c k) 0) ∗ bigSep Finset.univ fun k : Fin 7 => accPts c (lentShare k) (own m c)) := by
  unfold sdDone; rw [bigSep_sep']

/-! ## The body -/

theorem wp_dev {Q : Dev nD → sProp 𝕄} : Q c ⊢ Wp (F := F) c (Prog.lift .deviceId) Q := by
  unfold Prog.lift Wp
  rw [wp_deviceId, wp_ret]
  iintro H; imodintro; iexact H

section Body

variable (i : grid0.Coords) {a1 : Memref sig .tc .vmem S512x2048 .f32} (h1 : a1.IsWhole) {a2 : Memref sig .tc .vmem S512x2048 .f32} (h2 : a2.IsWhole)
  {a3 : Memref sig .tc .vmem S2x2048 .f32} (h3 : a3.IsWhole) (X Y : FVec F S512x2048 .f32)

/-- The word the body asks whether to add: `1` past the first point. -/
abbrev later : BitVec 32 := Scalar.extui (Scalar.cmpi .sgt (BitVec.ofNat 32 (i 0).val) 0#32)
abbrev cond3 : BitVec 1 := Scalar.cmpi .ne (later i) 0#32

/-- The body, at any point. -/
abbrev theBody : Prog (TpuEff nD τ sig (Elt F) Λ₀ .tc) PUnit :=
  cc0_body i a1 h1 a2 h2 a3 h3 accM hacc commM hcomm cc0_scratch2 cc0_scratch3

abbrev Ret8 : Type := Σ' (arg0 : BitVec 32) (d0 : Dev nD) (v2 : BitVec 32) (v31 : FVec F S2x2048 .f32) (v36 : BitVec 32), BitVec 32

/-- The two blocks held. -/
def blocks (a1 a2 : Memref sig .tc .vmem S512x2048 .f32) : sProp 𝕄 :=
  iprop(owns (c : Thread nD τ) a1 fullShare X ∗ owns (c : Thread nD τ) a2 fullShare Y)

set_option maxHeartbeats 400000 in
/-- The first stretch at the first point: the rendezvous, then the first partial stored. -/
theorem part8_first (hc : k0_cond1 i = 1#1) {Q : Ret8 (F := F) → sProp 𝕄} :
    iprop(records m K ∗ levAts L lv ∗ owing c (O₀ c) ∗ barGhost c ∗ mySlots c ∗ (∃ f : FVec F S2x2048 .f32, accPts c fullShare f) ∗ blocks c X Y a1 a2)
      ⊢ iprop((∀ v2, (barDone c ∗ accPts c fullShare (k0_pay6 X Y) ∗ blocks c X Y a1 a2) -∗ Q ⟨BitVec.ofNat 32 (i 0).val, c, v2, k0_pay5 X Y, later i, 0#32⟩)
        -∗ Wp c (k0_part8 (F := F) i a1 h1 a2 h2 a3 h3 accM hacc commM hcomm cc0_scratch2 cc0_scratch3) Q) := by
  have hc2 : Scalar.cmpi .ne (Scalar.extui (Scalar.cmpi .eq (BitVec.ofNat 32 (i 0).val) 0#32) : BitVec 32) 0#32 = 1#1 := hc
  rw [k0_part8_eq_skeleton]; unfold k0_part8_skel Wp blocks barGhost
  simp only [wp_bind, Prog.pure_eq_ret, dif_pos hc, dif_pos hc2]
  obtain ⟨-, -, -, -, -, d6, d7⟩ := sig_dev c
  iintro ⟨#HR, #Hlev, HO, ⟨Ht, Hc, Hat⟩, Hs, ⟨%f, Ha⟩, Hx, Hy⟩ Hk
  iapply (wp_dev c)
  ihave H := (sig_start c) $$ [HO Ht Hs]
  · isplitl [HO]; · iexact HO
    isplitl [Ht] <;> iassumption
  iapply (part1_spec m K c i h1 h2 h3 _ hc) $$ [H]; · (isplitr; · iexact HR); iexact H
  iintro H
  iapply (wp_signal_step m K c 5 _ (Fin.ext d6)) $$ [H]; · (isplitr; · iexact HR); iexact H
  iintro H
  iapply (wp_signal_step m K c 6 _ (Fin.ext d7)) $$ [H]; · (isplitr; · iexact HR); iexact H
  iintro H
  iapply (wp_bar_wait m K c) $$ [H Hc Hat]
  · isplitr; · iexact HR
    isplitr; · iexact Hlev
    isplitl [H]; · iexact H
    isplitl [Hc] <;> iassumption
  iintro H
  iapply (wp_owns_load c a1 hz2 _) $$ Hx
  iintro Hx
  iapply (wp_owns_load c a2 hz2 _) $$ Hy
  iintro Hy
  ihave Ha := (accPts_owns c fullShare f).2 $$ Ha
  iapply (wp_owns_load c accM hz2 _) $$ Ha
  iintro Ha
  iapply (wp_owns_store c accM hz2 _) $$ Ha
  iintro Ha
  ihave Ha := (accPts_owns c fullShare _).1 $$ Ha
  rw [wp_ret]; imodintro
  iapply Hk
  isplitl [H]; · iexact H
  isplitl [Ha]; · iexact Ha
  isplitl [Hx] <;> iassumption

set_option maxHeartbeats 400000 in
/-- The first stretch at a later point: the blocks are loaded. -/
theorem part8_later (hc : ¬ k0_cond1 i = 1#1) {Q : Ret8 (F := F) → sProp 𝕄} :
    blocks c X Y a1 a2
      ⊢ iprop((∀ v2, blocks c X Y a1 a2 -∗ Q ⟨BitVec.ofNat 32 (i 0).val, c, v2, k0_pay5 X Y, later i, 0#32⟩)
        -∗ Wp c (k0_part8 (F := F) i a1 h1 a2 h2 a3 h3 accM hacc commM hcomm cc0_scratch2 cc0_scratch3) Q) := by
  have hc2 : ¬ Scalar.cmpi .ne (Scalar.extui (Scalar.cmpi .eq (BitVec.ofNat 32 (i 0).val) 0#32) : BitVec 32) 0#32 = 1#1 := hc
  rw [k0_part8_eq_skeleton]; unfold k0_part8_skel Wp blocks
  simp only [wp_bind, Prog.pure_eq_ret, dif_neg hc, dif_neg hc2]
  iintro ⟨Hx, Hy⟩ Hk
  iapply (wp_dev c)
  iapply (wp_owns_load c a1 hz2 _) $$ Hx
  iintro Hx
  iapply (wp_owns_load c a2 hz2 _) $$ Hy
  iintro Hy
  rw [wp_ret]; imodintro
  iapply Hk
  isplitl [Hx] <;> iassumption

set_option maxHeartbeats 400000 in
/-- The body at the first point. -/
theorem body_first (hc1 : k0_cond1 i = 1#1) (hc3 : ¬ cond3 i = 1#1) (hc4 : ¬ k0_cond4 i = 1#1) {Q : PUnit → sProp 𝕄} :
    iprop(records m K ∗ levAts L lv ∗ owing c (O₀ c) ∗ barGhost c ∗ mySlots c ∗ (∃ f : FVec F S2x2048 .f32, accPts c fullShare f) ∗ blocks c X Y a1 a2)
      ⊢ iprop(((barDone c ∗ accPts c fullShare (k0_pay6 X Y) ∗ blocks c X Y a1 a2) -∗ Q ⟨⟩) -∗ Wp c (theBody (F := F) i h1 h2 h3) Q) := by
  unfold theBody Wp
  rw [cc0_body_eq_skeleton]; unfold cc0_body_skel
  simp only [wp_bind, Prog.pure_eq_ret, dif_neg hc4]
  iintro H Hk
  iapply (part8_first m K c i h1 h2 h3 X Y hc1) $$ H
  iintro %v2 H
  simp only [dif_neg hc3]
  rw [wp_ret]; imodintro
  iapply Hk; iexact H

set_option maxHeartbeats 400000 in
/-- The body at a point between the first and the last. -/
theorem body_mid (hc1 : ¬ k0_cond1 i = 1#1) (hc3 : cond3 i = 1#1) (hc4 : ¬ k0_cond4 i = 1#1) (f : FVec F S2x2048 .f32) {Q : PUnit → sProp 𝕄} :
    iprop(accPts c fullShare f ∗ blocks c X Y a1 a2)
      ⊢ iprop(((accPts c fullShare (k0_pay1 (k0_pay5 X Y) f) ∗ blocks c X Y a1 a2) -∗ Q ⟨⟩) -∗ Wp c (theBody (F := F) i h1 h2 h3) Q) := by
  unfold theBody Wp
  rw [cc0_body_eq_skeleton]; unfold cc0_body_skel
  simp only [wp_bind, Prog.pure_eq_ret, dif_neg hc4]
  iintro ⟨Ha, H⟩ Hk
  iapply (part8_later c i h1 h2 h3 X Y hc1) $$ H
  iintro %v2 H
  simp only [dif_pos hc3, wp_bind]
  ihave Ha := (accPts_owns c fullShare f).2 $$ Ha
  iapply (wp_owns_load c accM hz2 _) $$ Ha
  iintro Ha
  iapply (wp_owns_load c accM hz2 _) $$ Ha
  iintro Ha
  iapply (wp_owns_store c accM hz2 _) $$ Ha
  iintro Ha
  ihave Ha := (accPts_owns c fullShare _).1 $$ Ha
  rw [wp_ret]; imodintro
  iapply Hk
  isplitl [Ha] <;> iassumption

set_option maxHeartbeats 800000 in
/-- The body at the last point. -/
theorem body_last (hc1 : ¬ k0_cond1 i = 1#1) (hc3 : cond3 i = 1#1) (hc4 : k0_cond4 i = 1#1) (f Z : FVec F S2x2048 .f32)
    (hf : k0_pay1 (k0_pay5 X Y) f = own m c) {Q : PUnit → sProp 𝕄} :
    iprop(records m K ∗ owing c (owesR c 0) ∗ exGhost c ∗ peerSlots c ∗ accPts c fullShare f ∗ blocks c X Y a1 a2 ∗ owns (c : Thread nD τ) a3 fullShare Z)
      ⊢ iprop(((owing c 0 ∗ accPts c fullShare (own m c) ∗ rvDone m c ∗ (bigSep Finset.univ fun k : Fin 7 => semVal (sendCell c k) 0)
            ∗ blocks c X Y a1 a2 ∗ owns (c : Thread nD τ) a3 fullShare (outAt m c)) -∗ Q ⟨⟩)
          -∗ Wp c (theBody (F := F) i h1 h2 h3) Q) := by
  unfold theBody Wp exGhost
  rw [cc0_body_eq_skeleton]; unfold cc0_body_skel
  simp only [wp_bind, Prog.pure_eq_ret, dif_pos hc4]
  iintro ⟨#HR, HO, ⟨Ht, Hrv, Hsd⟩, Hp, Ha, H, Hz⟩ Hk
  iapply (part8_later c i h1 h2 h3 X Y hc1) $$ H
  iintro %v2 H
  simp only [dif_pos hc3, wp_bind]
  ihave Ha := (accPts_owns c fullShare f).2 $$ Ha
  iapply (wp_owns_load c accM hz2 _) $$ Ha
  iintro Ha
  iapply (wp_owns_load c accM hz2 _) $$ Ha
  iintro Ha
  iapply (wp_owns_store c accM hz2 _) $$ Ha
  iintro Ha
  rw [hf]
  ihave Ha := (accPts_owns c fullShare _).1 $$ Ha
  ihave Ha := (acc_split c (own m c)).1 $$ Ha
  icases Ha with ⟨Ha, Hl⟩
  ihave Hcp := (cp_start m c) $$ [HO Ht Hp Hl]
  · isplitl [HO]; · iexact HO
    isplitl [Ht]; · iexact Ht
    isplitl [Hp] <;> iassumption
  iapply (part2_spec m K c i h1 h2 h3 _ hc4) $$ [Hcp]; · (isplitr; · iexact HR); iexact Hcp
  iintro %r Hcp
  iapply (part3_spec m K c i h1 h2 h3 _ hc4) $$ [Hcp]; · (isplitr; · iexact HR); iexact Hcp
  iintro %r' Hcp
  iapply (part4_spec m K c i h1 h2 h3 _ hc4 _ _ _) $$ [Hcp Ha Hrv]
  · isplitr; · iexact HR
    isplitl [Hcp]; · iexact Hcp
    isplitl [Ha] <;> iassumption
  iintro %r2 %hr2 ⟨Hc, Ha, Hrv⟩
  obtain ⟨w, v⟩ := r2
  dsimp only at hr2 ⊢
  subst hr2
  iapply (part5_spec m K c i h1 h2 h3 _ _ _) $$ [Hrv]; · (isplitr; · iexact HR); iexact Hrv
  iintro Hrv
  ihave Hsd := (sd_todo c) $$ [Hsd Hc]; · isplitl [Hsd] <;> iassumption
  iapply (part6_spec m K c i h1 h2 h3 _ _ Z) $$ [Hrv Hsd Hz]
  · isplitr; · iexact HR
    isplitl [Hrv]; · iexact Hrv
    isplitl [Hsd] <;> iassumption
  iintro ⟨Hrv, Hsd, Hz⟩
  iapply (part7_spec m K c i h1 h2 h3) $$ [Hsd]; · (isplitr; · iexact HR); iexact Hsd
  iintro Hsd
  iapply (wp_sent_step m K c 6) $$ [Hsd]; · (isplitr; · iexact HR); iexact Hsd
  iintro Hsd
  ihave Hsd := (sd_end m c (j := (6 : Fin 7).val + 1) rfl) $$ Hsd
  icases Hsd with ⟨HO, Hsd⟩
  ihave Hsd := (sd_done m c) $$ Hsd
  icases Hsd with ⟨Hsd, Hl⟩
  ihave Ha := (acc_split c (own m c)).2 $$ [Ha Hl]; · isplitl [Ha] <;> iassumption
  rw [wp_ret]; imodintro
  iapply Hk
  isplitl [HO]; · iexact HO
  isplitl [Ha]; · iexact Ha
  isplitl [Hrv]; · iexact Hrv
  isplitl [Hsd]; · iexact Hsd
  isplitl [H] <;> iassumption

end Body

end Cert.ExchangeProof

end
-- ==== Proof.Points.lean ====
/-
# What holds before every grid point

The invariant of the kernel's grid and the proof that the body keeps it.
-/
module

public import proofs.«01_k».proof.Proof.Body

@[expose] public section

noncomputable section

namespace Cert.ExchangeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## The invariant -/

/-- Before the first point. -/
def phiFirst : sProp 𝕄 :=
  iprop((∃ K, records m K ∗ levAts L lv ∗ barGhost c ∗ exGhost c) ∗ mySlots c ∗ ∃ f : FVec F S2x2048 .f32, accPts c fullShare f)
/-- Between points: the accumulator at the partial sums so far. -/
def phiMid (f : FVec F S2x2048 .f32) : sProp 𝕄 :=
  iprop((∃ K, records m K ∗ exGhost c) ∗ peerSlots c ∗ accPts c fullShare f ∗ semVal (barCell c) 0)
/-- After the last point. -/
def phiLast : sProp 𝕄 :=
  iprop(accPts c fullShare (own m c) ∗ rvDone m c ∗ (bigSep Finset.univ fun k : Fin 7 => semVal (sendCell c k) 0) ∗ semVal (barCell c) 0)

/-- Before point `n`. -/
def phiN : ℕ → sProp 𝕄
  | 0 => phiFirst m c
  | n + 1 => if n < 7 then phiMid m c (accUpTo m c n) else phiLast m c
/-- What is owed before point `n`. -/
def owedN : ℕ → CellTallies nD τ sig Unit
  | 0 => O₀ c
  | n + 1 => if n < 7 then owesR c 0 else 0

theorem phiN_zero : phiN m c 0 = phiFirst m c := rfl
theorem phiN_mid (n : ℕ) (h : n < 7) : phiN m c (n + 1) = phiMid m c (accUpTo m c n) := if_pos h
theorem owedN_zero : owedN c 0 = O₀ c := rfl
theorem phiN_six : phiN m c 7 = phiMid m c (accUpTo m c 6) := rfl
theorem owedN_six : owedN c 7 = owesR c 0 := rfl
theorem phiN_last : phiN m c (7 + 1) = phiLast m c := rfl
theorem owedN_mid (n : ℕ) (h : n < 7) : owedN c (n + 1) = owesR c 0 := if_pos h

def dats (_ : Fin 1) (c : Dev nD) : Dat τ (Elt F) Unit ℕ UU ℕ cfg0 c where
  A w := m ((cfg0.win w).arr.view.loc (c : Thread nD τ))
  after w t := match w with
    | ⟨0, _⟩ => xAt m c t
    | ⟨1, _⟩ => dyAt m c t
    | ⟨2, _⟩ => outAt m c
  Φ t := phiN m c t.val
  q _ := fullShare
  owed t := owedN c t.val

theorem phi_pre (t : Fin cfg0.N) : (dats m 0 c).Φ t.castSucc = phiN m c t.val := rfl
theorem phi_post (t : Fin cfg0.N) : (dats m 0 c).Φ t.succ = phiN m c (t.val + 1) := rfl
theorem owed_pre (t : Fin cfg0.N) : (dats m 0 c).owed t.castSucc = owedN c t.val := rfl
theorem owed_post (t : Fin cfg0.N) : (dats m 0 c).owed t.succ = owedN c (t.val + 1) := rfl

theorem before_x (t : Fin cfg0.N) (d) : (dats m 0 c).before 0 t d = xAt m c t :=
  ((dats m 0 c).before_in_eq_fetched 0 rfl (fun _ => rfl) (fun _ _ _ => rfl) (fun _ => rfl) t d).trans rfl
theorem before_dy (t : Fin cfg0.N) (d) : (dats m 0 c).before 1 t d = dyAt m c t :=
  ((dats m 0 c).before_in_eq_fetched 1 rfl (fun _ => rfl) (fun _ _ _ => rfl) (fun _ => rfl) t d).trans rfl

theorem gp_val (t : Fin cfg0.N) : gp t.val = t := Fin.ext (Nat.mod_eq_of_lt (by have := t.isLt; have h : cfg0.N = 8 := N_0; omega))

/-- Which point each condition picks. -/
theorem conds : ∀ t : Fin grid0.N, (k0_cond1 (grid0.coords t) = 1#1 ↔ t.val = 0) ∧ (cond3 (grid0.coords t) = 1#1 ↔ t.val ≠ 0)
    ∧ (k0_cond4 (grid0.coords t) = 1#1 ↔ t.val = 7) := by decide

theorem owesAt_intro (t : Fin cfg0.N) : owing c (owedN c (t.val + 1)) ⊢ (dats m 0 c).owesAt () t.succ := by
  rw [← owed_post m c t]
  unfold Dat.owesAt Pipeline.owesWithin owing
  iintro ⟨%W, H⟩
  iexists W; isplitr; · (ipureintro; exact fun _ _ => Or.inl trivial)
  iexact H
theorem owesAt_elim (t : Fin cfg0.N) : (dats m 0 c).owesAt () t.castSucc ⊢ owing c (owedN c t.val) := by
  rw [← owed_pre m c t]
  unfold Dat.owesAt Pipeline.owesWithin owing
  iintro ⟨%W, -, H⟩
  iexists W; iexact H

/-! ## The obligation -/

/-- A stage held at what the pipeline put there before point `t`. -/
abbrev stBefore (w : Fin cfg0.W) (t : Fin cfg0.N) : sProp 𝕄 :=
  iprop(∃ d, owns (c : Thread nD τ) ((cfg0.win w).stage (cfg0.slots t w)) fullShare ((dats m 0 c).before w t d))

theorem blocks_intro (t : Fin cfg0.N) : iprop(stBefore m c 0 t ∗ stBefore m c 1 t) ⊢ blocks c (xAt m c t) (dyAt m c t) (st0_0 t) (st0_1 t) := by
  unfold blocks
  iintro ⟨⟨%d, H⟩, ⟨%d', H'⟩⟩
  rw [before_x, before_dy]
  isplitl [H] <;> iassumption

theorem step_first (t : Fin cfg0.N) (ht : t.val = 0) {Q : PUnit → sProp 𝕄} :
    iprop(phiN m c t.val ∗ owing c (owedN c t.val) ∗ blocks c (xAt m c t) (dyAt m c t) (st0_0 t) (st0_1 t))
      ⊢ (iprop(phiN m c (t.val + 1) ∗ owing c (owedN c (t.val + 1)) ∗ blocks c (xAt m c t) (dyAt m c t) (st0_0 t) (st0_1 t)) -∗ Q ⟨⟩) -∗ Wp c (bodyAt0 (F := F) t) Q := by
  obtain ⟨h1, h3, h4⟩ := conds t
  have hgp : gp 0 = t := by rw [← gp_val t, ht]
  rw [ht]
  rw [phiN_zero, phiN_mid m c 0 (by decide), owedN_mid c 0 (by decide)]
  unfold phiFirst phiMid
  iintro ⟨⟨⟨%K, #HR, #Hlev, Hb, He⟩, Hs, Ha⟩, HO, H⟩ HQ
  iapply (body_first m K c (grid0.coords t) _ _ _ (xAt m c t) (dyAt m c t) (h1.mpr ht) (fun h => h3.mp h ht) (fun h => by have := h4.mp h; omega)) $$ [Hb Hs Ha HO H]
  · isplitr; · iexact HR
    isplitr; · iexact Hlev
    isplitl [HO]; · iexact HO
    isplitl [Hb]; · iexact Hb
    isplitl [Hs]; · iexact Hs
    isplitl [Ha] <;> iassumption
  unfold barDone accUpTo peerSlots
  rw [hgp]
  iintro ⟨⟨HO, Hz, Hp⟩, Ha, H⟩
  iapply HQ
  isplitl [He Hz Hp Ha]
  · isplitl [He]
    · iexists K; isplitr; · iexact HR
      iexact He
    isplitl [Hp]; · iexact Hp
    isplitl [Ha] <;> iassumption
  isplitl [HO] <;> iassumption

theorem step_mid (t : Fin cfg0.N) (ht : t.val ≠ 0) (ht' : t.val ≠ 7) {Q : PUnit → sProp 𝕄} :
    iprop(phiN m c t.val ∗ owing c (owedN c t.val) ∗ blocks c (xAt m c t) (dyAt m c t) (st0_0 t) (st0_1 t))
      ⊢ (iprop(phiN m c (t.val + 1) ∗ owing c (owedN c (t.val + 1)) ∗ blocks c (xAt m c t) (dyAt m c t) (st0_0 t) (st0_1 t)) -∗ Q ⟨⟩) -∗ Wp c (bodyAt0 (F := F) t) Q := by
  obtain ⟨h1, h3, h4⟩ := conds t
  obtain ⟨n, hn⟩ : ∃ n, t.val = n + 1 := ⟨t.val - 1, by omega⟩
  have hgp : gp (n + 1) = t := by rw [← gp_val t, hn]
  have hN : t.val < 8 := by have := t.isLt; have h : cfg0.N = 8 := N_0; omega
  rw [hn]
  rw [phiN_mid m c n (by omega), phiN_mid m c (n + 1) (by omega), owedN_mid c n (by omega), owedN_mid c (n + 1) (by omega)]
  unfold phiMid
  iintro ⟨⟨HR, Hp, Ha, Hz⟩, HO, H⟩ HQ
  iapply (body_mid c (grid0.coords t) _ _ _ (xAt m c t) (dyAt m c t) (fun h => ht (h1.mp h)) (h3.mpr ht) (fun h => ht' (h4.mp h)) (accUpTo m c n)) $$ [Ha H]
  · isplitl [Ha] <;> iassumption
  rw [show accUpTo m c (n + 1) = k0_pay1 (k0_pay5 (xAt m c t) (dyAt m c t)) (accUpTo m c n) by rw [← hgp]; rfl]
  iintro ⟨Ha, H⟩
  iapply HQ
  isplitl [HR Hz Hp Ha]
  · isplitl [HR]; · iexact HR
    isplitl [Hp]; · iexact Hp
    isplitl [Ha] <;> iassumption
  isplitl [HO] <;> iassumption

theorem step_last (t : Fin cfg0.N) (ht : t.val = 7) (Z : FVec F S2x2048 .f32) {Q : PUnit → sProp 𝕄} :
    iprop(phiN m c t.val ∗ owing c (owedN c t.val) ∗ blocks c (xAt m c t) (dyAt m c t) (st0_0 t) (st0_1 t) ∗ owns (c : Thread nD τ) (st0_2 t) fullShare Z)
      ⊢ (iprop(phiN m c (t.val + 1) ∗ owing c (owedN c (t.val + 1)) ∗ blocks c (xAt m c t) (dyAt m c t) (st0_0 t) (st0_1 t)
          ∗ owns (c : Thread nD τ) (st0_2 t) fullShare (outAt m c)) -∗ Q ⟨⟩) -∗ Wp c (bodyAt0 (F := F) t) Q := by
  obtain ⟨h1, h3, h4⟩ := conds t
  have hgp : gp 7 = t := by rw [← gp_val t, ht]
  rw [ht]
  rw [phiN_six, owedN_six, phiN_last]
  unfold phiMid phiLast
  iintro ⟨⟨⟨%K, #HR, He⟩, Hp, Ha, Hb⟩, HO, H, Hz⟩ HQ
  iapply (body_last m K c (grid0.coords t) _ _ _ (xAt m c t) (dyAt m c t) (fun h => by have := h1.mp h; omega) (h3.mpr (by omega)) (h4.mpr ht) (accUpTo m c 6) Z
    (by rw [← hgp]; rfl)) $$ [He Hp Ha HO H Hz]
  · isplitr; · iexact HR
    isplitl [HO]; · iexact HO
    isplitl [He]; · iexact He
    isplitl [Hp]; · iexact Hp
    isplitl [Ha]; · iexact Ha
    isplitl [H] <;> iassumption
  iintro ⟨HO, Ha, Hrv, Hsd, H, Hz⟩
  iapply HQ
  isplitl [Hb Ha Hrv Hsd]
  · isplitl [Ha]; · iexact Ha
    isplitl [Hrv]; · iexact Hrv
    isplitl [Hsd] <;> iassumption
  isplitl [HO]; · iexact HO
  isplitl [H] <;> iassumption

/-- The result's window: held back to where it was before every point but the last. -/
theorem idle_of (t : Fin cfg0.N) (h : t.val ≠ 7) : cfg0.idle 2 (cfg0.grid.coords t) = true := by
  show (!(k0_cond4 (grid0.coords t) == 1#1)) = true
  rw [beq_false_of_ne fun h' => h ((conds t).2.2.mp h')]; rfl
theorem idle_not (t : Fin cfg0.N) (h : t.val = 7) : cfg0.idle 2 (cfg0.grid.coords t) = false := by
  show (!(k0_cond4 (grid0.coords t) == 1#1)) = false
  rw [(conds t).2.2.mpr h]; rfl
theorem flush_not (t : Fin cfg0.N) (h : t.val ≠ 7) : (cfg0.win 2).flush t = false :=
  Bool.eq_false_iff.mpr fun h' => by
    have h1 := (flush0_2 t).mp h'; have := t.isLt; have h2 : cfg0.N = 8 := N_0; omega

theorem blocks_elim (t : Fin cfg0.N) : blocks c (xAt m c t) (dyAt m c t) (st0_0 t) (st0_1 t)
    ⊢ iprop(owns (c : Thread nD τ) (st0_0 t) fullShare (xAt m c t) ∗ owns (c : Thread nD τ) (st0_1 t) fullShare (dyAt m c t)) := .rfl

theorem body_obligation : BodyObligation (dats (F := F) m 0 c) (defs₀ (F := F)) 𝒱₀ () Set.univ := fun t => by
  rw [bigSep_W0, bigSep_W0, phi_pre, phi_post]
  show iprop(phiN m c t.val ∗ (dats m 0 c).owesAt () t.castSucc ∗ stBefore m c 0 t ∗ stBefore m c 1 t ∗ stBefore m c 2 t) ⊢ Wp c (bodyAt0 (F := F) t) _
  iintro ⟨Hphi, HO, Hx, Hy, Hz⟩
  ihave HO := (owesAt_elim m c t) $$ HO
  ihave H := (blocks_intro m c t) $$ [Hx Hy]; · isplitl [Hx] <;> iassumption
  by_cases ht : t.val = 7
  · rw [idle_not t ht]
    icases Hz with ⟨%d, Hz⟩
    iapply (step_last m c t ht _) $$ [Hphi HO H Hz]
    · isplitl [Hphi]; · iexact Hphi
      isplitl [HO]; · iexact HO
      isplitl [H] <;> iassumption
    iintro ⟨Hphi, HO, H, Hz⟩
    icases (blocks_elim m c t) $$ H with ⟨Hx, Hy⟩
    ihave HO := (owesAt_intro m c t) $$ HO
    isplitl [Hphi]; · iexact Hphi
    isplitl [HO]; · iexact HO
    isplitl [Hx]; · iexact Hx
    isplitl [Hy]; · iexact Hy
    iexact Hz
  · rw [idle_of t ht, flush_not t ht]
    have step {Q : PUnit → sProp 𝕄} := if h0 : t.val = 0 then step_first (Q := Q) m c t h0 else step_mid (Q := Q) m c t h0 ht
    iapply step $$ [Hphi HO H]
    · isplitl [Hphi]; · iexact Hphi
      isplitl [HO] <;> iassumption
    iintro ⟨Hphi, HO, H⟩
    icases (blocks_elim m c t) $$ H with ⟨Hx, Hy⟩
    ihave HO := (owesAt_intro m c t) $$ HO
    isplitl [Hphi]; · iexact Hphi
    isplitl [HO]; · iexact HO
    isplitl [Hx]; · iexact Hx
    isplitl [Hy]; · iexact Hy
    iexact Hz

end Cert.ExchangeProof

end
-- ==== Proof.Launch.lean ====
/-
# The launch of the exchange

The ghost state dealt to the eight devices at launch, the credit each starts with, and the run of the whole program.
-/
module

public import proofs.«01_k».proof.Proof.Points
public import Idealize.ShloMosaic.Lib.Pipeline.CollectiveSegs

@[expose] public section

noncomputable section

namespace Cert.ExchangeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Cells and tokens at launch -/

theorem ownSemFacts : Pipeline.OwnSemFacts cfg0.spec osem := by decide

theorem share_eq (c : Dev nD) (w : Fin cfg0.W) : (dats m 0 c).share w = fullShare := by unfold Dat.share; split <;> rfl

theorem csem_injective : Function.Injective csem := by
  rintro (_ | k | k) (_ | k' | k') h
  · rfl
  · exact absurd h.symm (dma_ne_bar _)
  · exact absurd h.symm (dma_ne_bar _)
  · exact absurd h (dma_ne_bar _)
  · rw [send_inj h]
  · exact absurd h.symm (recv_ne_send _ _)
  · exact absurd h (dma_ne_bar _)
  · exact absurd h (recv_ne_send _ _)
  · rw [recv_inj h]

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]
def exCells : Finset (GSem nD τ sig) := Finset.univ.map ⟨kcell, kcell_injective⟩

/-- The duties of one device's cells: the barrier's seven, then one for each send and for each receive. -/
abbrev TIx : Type := Fin 7 ⊕ (Fin 7 ⊕ Fin 7)
abbrev tokSem : TIx → (Unit ⊕ (Fin 7 ⊕ Fin 7)) × Fin 7 := Sum.elim (fun d => (.inl (), d)) (fun k => (.inr k, 0))
theorem tokSem_injective : Function.Injective tokSem := by
  rintro (d | k) (d' | k') h
  · exact congrArg Sum.inl (congrArg Prod.snd h)
  · cases congrArg Prod.fst h
  · cases congrArg Prod.fst h
  · exact congrArg Sum.inr (Sum.inr_injective (congrArg Prod.fst h))
abbrev tokOf (cj : Dev nD × TIx) : GSem nD τ sig × ℕ × Fin 7 := (kcell (cj.1, (tokSem cj.2).1), 0, (tokSem cj.2).2)
theorem tokOf_injective : Function.Injective tokOf := by
  rintro ⟨c, j⟩ ⟨c', j'⟩ h
  have h1 := kcell_injective (congrArg Prod.fst h)
  have h2 : (tokSem j).2 = (tokSem j').2 := congrArg (fun x : GSem nD τ sig × ℕ × Fin 7 => x.2.2) h
  exact Prod.ext (congrArg (fun x : CIx => x.1) h1) (tokSem_injective (Prod.ext (congrArg (fun x : CIx => x.2) h1) h2))
def exToks : Finset (GSem nD τ sig × ℕ × Fin 7) := Finset.univ.map ⟨tokOf, tokOf_injective⟩

def u₀ : UU := (initOf (Pipeline.cells cfgs cellOf_inj) (Pipeline.launchToks cfgs cellOf_inj), initOf exCells exToks)

/-- The duty tokens of device `c`'s own cells; of the duties device `c` is to pay. -/
def mintToks (c : Dev nD) : sProp 𝕄 :=
  iprop((bigSep Finset.univ fun d : Fin 7 => dutyTok ER (barCell c) 0 d)
    ∗ (bigSep Finset.univ fun k : Fin 7 => dutyTok ER (sendCell c k) 0 0) ∗ bigSep Finset.univ fun k : Fin 7 => dutyTok ER (recvCell c k) 0 0)
def payToks (c : Dev nD) : sProp 𝕄 :=
  iprop((bigSep Finset.univ fun k : Fin 7 => dutyTok ER (barCell (sh c k)) 0 (rev k))
    ∗ bigSep Finset.univ fun k : Fin 7 => iprop(dutyTok ER (sendCell c k) 0 0 ∗ dutyTok ER (recvCell (sh c k) k) 0 0))
/-- Device `c`'s positions in its own cells. -/
def positions (c : Dev nD) : sProp 𝕄 :=
  iprop(atPos ER (barCell c) 0 ∅ 0 ∗ (bigSep Finset.univ fun k : Fin 7 => atPos ER (sendCell c k) 0 ∅ 0)
    ∗ bigSep Finset.univ fun k : Fin 7 => atPos ER (recvCell c k) 0 ∅ 0)

/-- What the launch element deals device `c`, and what is made of it once every cell's invariant stands. -/
def G (c : Dev nD) : sProp 𝕄 :=
  iprop((bigSep Finset.univ fun k => roundState ER (xRd m) (kcell (c, k)) 0) ∗ (bigSep Finset.univ fun k => reached ER (kcell (c, k)) 0)
    ∗ positions c ∗ mintToks c)
def G' (c : Dev nD) : sProp 𝕄 := iprop(∃ K, records m K ∗ positions c ∗ payToks c)

omit [FloatOps F] in
theorem bigSep_cells (Φ : Unit ⊕ (Fin 7 ⊕ Fin 7) → sProp 𝕄) : bigSep Finset.univ Φ
    = iprop(Φ (.inl ()) ∗ (bigSep Finset.univ fun k : Fin 7 => Φ (.inr (.inl k))) ∗ bigSep Finset.univ fun k : Fin 7 => Φ (.inr (.inr k))) := by
  rw [bigSep_univ_sum, bigSep_univ_sum, show (Finset.univ : Finset Unit) = {()} from rfl, bigSep_singleton]; rfl

theorem fund_exchange : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k => Φ (kcell (c, k)) := by
    unfold exCells; rw [bigSep_map, bigSep_univ_prod]; rfl
  have hP : bigSep exCells (fun g => (atPos ER g 0 ∅ 0 : sProp 𝕄)) = bigSep Finset.univ positions := by
    rw [hX]; exact bigSep_congr fun c _ => bigSep_cells _
  have hT : bigSep exToks (fun x => (dutyTok ER x.1 x.2.1 x.2.2 : sProp 𝕄)) = bigSep Finset.univ mintToks := by
    unfold exToks; rw [bigSep_map, bigSep_univ_prod]
    exact bigSep_congr fun c _ => by rw [bigSep_univ_sum, bigSep_univ_sum]; rfl
  iintro HX
  imod (Rounds.fund ER (xRd m) exCells exToks) $$ HX with ⟨Hst, Hr, Hat, Htok⟩
  imodintro
  ihave Hst' := (Entails.of_eq (hX fun g => roundState ER (xRd m) g 0)) $$ Hst
  ihave Hr' := (Entails.of_eq (hX fun g => reached ER g 0)) $$ Hr
  ihave Hat' := (Entails.of_eq hP) $$ Hat
  ihave Htok' := (Entails.of_eq hT) $$ Htok
  unfold G; simp only [bigSep_sep']
  isplitl [Hst']; · iexact Hst'
  isplitl [Hr']; · iexact Hr'
  isplitl [Hat'] <;> iassumption

/-! ## The semaphores -/

omit [FloatOps F] in
/-- The kernel's own semaphores are the sends' and the receives'; -/
theorem ownSems0_eq (c : Dev nD) : (Pipeline.ownSems0 (Ix := Unit) (Name := ℕ) (U := UU) (Lvl := ℕ) (Val := Elt F) (τ := τ) osem c : sProp 𝕄)
    = iprop((bigSep Finset.univ fun k : Fin 7 => semVal (sendCell c k) 0) ∗ bigSep Finset.univ fun k : Fin 7 => semVal (recvCell c k) 0) := by
  unfold Pipeline.ownSems0; exact bigSep_univ_sum _
omit [FloatOps F] in
/-- the barrier semaphore the one that outlives it. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- One device's cells get their invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (xRd m) κ (kcell (c, k))))
          ∗ (bigSep Finset.univ fun k => reached ER (kcell (c, k)) 0) ∗ positions c ∗ mintToks c) := by
  have hinv : iprop((bigSep Finset.univ fun k => semVal (kcell (c, k)) 0) ∗ bigSep Finset.univ fun k => roundState ER (xRd m) (kcell (c, k)) 0)
      ⊢ (|={Set.univ}=> bigSep Finset.univ fun k => iprop(∃ κ : ℕ, cellInv ER (xRd m) κ (kcell (c, k))) : sProp 𝕄) := by
    rw [← bigSep_sep']
    exact (bigSep_mono fun k _ => (Rounds.body_intro ER (xRd m) (kcell (c, k))).trans inv_alloc).trans (bigSep_fupd _ _)
  rw [ownSems0_eq, unscopedSems0_eq]
  unfold G
  iintro ⟨⟨Hs, Hr⟩, Hb, Hst, Hrest⟩
  imod hinv $$ [Hs Hr Hb Hst] with Hinv
  · isplitr [Hst]
    · rw [bigSep_cells]
      isplitl [Hb]; · iexact Hb
      isplitl [Hs]; · iexact Hs
      iexact Hr
    · iexact Hst
  imodintro
  isplitl [Hinv] <;> iassumption

/-! ## The tokens go to those who pay -/

/-- The barrier duties seen from the payer, and the receive duties. -/
def barSwap : Dev nD × Fin 7 ≃ Dev nD × Fin 7 where
  toFun p := (sh p.1 p.2, rev p.2)
  invFun p := (sh p.1 p.2, rev p.2)
  left_inv p := Prod.ext (sh_sh_rev p.1 p.2) (rev_rev p.2)
  right_inv p := Prod.ext (sh_sh_rev p.1 p.2) (rev_rev p.2)
def recvShift : Dev nD × Fin 7 ≃ Dev nD × Fin 7 where
  toFun p := (sh p.1 p.2, p.2)
  invFun p := (rs p.1 p.2, p.2)
  left_inv p := Prod.ext (rs_sh p.1 p.2) rfl
  right_inv p := Prod.ext (sh_rs p.1 p.2) rfl

omit [FloatOps F] in
theorem across (e : Dev nD × Fin 7 ≃ Dev nD × Fin 7) (Φ : Dev nD × Fin 7 → sProp 𝕄) :
    (bigSep Finset.univ fun c : Dev nD => bigSep Finset.univ fun k : Fin 7 => Φ (c, k))
      = bigSep Finset.univ fun c : Dev nD => bigSep Finset.univ fun k : Fin 7 => Φ (e (c, k)) := by
  rw [← bigSep_univ_prod Φ, bigSep_univ_equiv e, bigSep_univ_prod]
omit [FloatOps F] in
theorem bar_across (Φ : Dev nD → Fin 7 → sProp 𝕄) : (bigSep Finset.univ fun c : Dev nD => bigSep Finset.univ fun k : Fin 7 => Φ c k)
    = bigSep Finset.univ fun c : Dev nD => bigSep Finset.univ fun k : Fin 7 => Φ (sh c k) (rev k) := across barSwap fun p => Φ p.1 p.2
omit [FloatOps F] in
theorem recv_across (Φ : Dev nD → Fin 7 → sProp 𝕄) : (bigSep Finset.univ fun c : Dev nD => bigSep Finset.univ fun k : Fin 7 => Φ c k)
    = bigSep Finset.univ fun c : Dev nD => bigSep Finset.univ fun k : Fin 7 => Φ (sh c k) k := across recvShift fun p => Φ p.1 p.2

omit [FloatOps F] in
theorem toks_around : bigSep Finset.univ (mintToks (F := F)) ⊢ bigSep Finset.univ (payToks (F := F)) := by
  unfold mintToks payToks
  simp only [bigSep_sep']
  iintro ⟨Hb, Hs, Hr⟩
  isplitl [Hb]
  · iapply (Entails.of_eq (bar_across fun c d => dutyTok ER (barCell c) 0 d)); iexact Hb
  isplitl [Hs]; · iexact Hs
  iapply (Entails.of_eq (recv_across fun c k => dutyTok ER (recvCell c k) 0 0)); iexact Hr

omit [FloatOps F] in
/-- A persistent fact goes to every summand. -/
theorem deal_persistent {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

theorem regroup :
    (bigSep Finset.univ fun c : Dev nD => iprop((bigSep Finset.univ fun k => iprop(∃ κ : ℕ, cellInv ER (xRd m) κ (kcell (c, k))))
          ∗ (bigSep Finset.univ fun k => reached ER (kcell (c, k)) 0) ∗ positions c ∗ mintToks c) : sProp 𝕄)
      ⊢ bigSep Finset.univ (G' m) := by
  rw [bigSep_sep', bigSep_sep', bigSep_sep', ← bigSep_univ_prod (fun ck : CIx => iprop(∃ κ : ℕ, cellInv ER (xRd m) κ (kcell ck))),
    ← bigSep_univ_prod (fun ck : CIx => (reached ER (kcell ck) 0 : sProp 𝕄))]
  iintro ⟨HI, HR, Hpos, Htok⟩
  ihave HK := (BI.bigSep_exists_pi Finset.univ (fun (ck : CIx) (κ : ℕ) => (cellInv ER (xRd m) κ (kcell ck) : sProp 𝕄))) $$ HI
  icases HK with ⟨%K, HI⟩
  ihave Htk := (toks_around (F := F)) $$ Htok
  iapply (deal_persistent (R := records m K) (Φ := fun c => iprop(positions c ∗ payToks c)) (Ψ := G' m) fun c => by
    unfold G'; iintro H; iexists K; iexact H)
  isplitl [HI HR]
  · unfold records; isplitl [HI] <;> iassumption
  · rw [bigSep_sep']; isplitl [Hpos] <;> iassumption

/-- All devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem tally_bar (d c : Dev nD) (k : Fin 7) : (tallyAt (barCell (sh d k)) () 1 : CellTallies nD τ sig Unit) (barCell c) () = if d = rs c k then 1 else 0 := by
  rw [tallyAt_apply]
  by_cases h : d = rs c k
  · subst h; rw [sh_rs, if_pos ⟨rfl, rfl⟩, if_pos rfl]
  · rw [if_neg h, if_neg fun h' => h ?_]
    rw [show c = sh d k from congrArg (fun g : GSem nD τ sig => g.1.1) h'.1, rs_sh]
theorem tally_recv (d c : Dev nD) (k k' : Fin 7) : (tallyAt (recvCell (sh d k') k') () N : CellTallies nD τ sig Unit) (recvCell c k) () = if k' = k then (if d = rs c k then N else 0) else 0 := by
  rw [tallyAt_apply]
  by_cases hk : k' = k
  · subst hk
    rw [if_pos rfl]
    by_cases h : d = rs c k'
    · subst h; rw [sh_rs, if_pos ⟨rfl, rfl⟩, if_pos rfl]
    · rw [if_neg h, if_neg fun h' => h ?_]
      rw [show c = sh d k' from congrArg (fun g : GSem nD τ sig => g.1.1) h'.1, rs_sh]
  · rw [if_neg hk, if_neg fun h' => hk (recv_inj (congrArg Prod.snd h'.1)).symm]

theorem owed_bar (d c : Dev nD) : O₀ d (barCell c) () = ∑ k : Fin 7, if d = rs c k then 1 else 0 := by
  unfold O₀ owesR owesB
  rw [from_zero, Pi.add_apply, Finsupp.add_apply, Finset.sum_apply, Finset.sum_apply, Finsupp.finset_sum_apply, Finsupp.finset_sum_apply,
    Finset.sum_congr rfl fun k _ => tally_bar d c k,
    Finset.sum_eq_zero fun k _ => by rw [tallyAt_ne_cell fun h => dma_ne_bar _ (congrArg Prod.snd h).symm]; rfl, Nat.zero_add]
theorem owed_recv (d c : Dev nD) (k : Fin 7) : O₀ d (recvCell c k) () = if d = rs c k then N else 0 := by
  unfold O₀ owesR owesB
  rw [from_zero, Pi.add_apply, Finsupp.add_apply, Finset.sum_apply, Finset.sum_apply, Finsupp.finset_sum_apply, Finsupp.finset_sum_apply,
    Finset.sum_congr rfl fun k' _ => tally_recv d c k k', Finset.sum_ite_eq' Finset.univ k, if_pos (Finset.mem_univ _),
    Finset.sum_eq_zero fun k' _ => by rw [tallyAt_ne_cell fun h => dma_ne_bar _ (congrArg Prod.snd h)]; rfl, Nat.add_zero]

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun k _ => (Finset.sum_ite_eq' Finset.univ (rs c k) fun _ => 1).trans (if_pos (Finset.mem_univ _))]
  rfl
theorem launch_recv (c : Dev nD) (k : Fin 7) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k, Finset.sum_ite_eq' Finset.univ (rs c k) fun _ => N,
    if_pos (Finset.mem_univ _)]

omit [FloatOps F] in
/-- A device starts with the credit of its barrier cell and of its seven receive cells. -/
theorem creds (c : Dev nD) : (Pipeline.launchCred O₀ c : sProp 𝕄)
    ⊢ iprop(cred (tallyAt (barCell c) () 7) ∗ bigSep Finset.univ fun k : Fin 7 => cred (tallyAt (recvCell c k) () N)) := by
  unfold Pipeline.launchCred
  rw [bigSep_univ_at _ (SemLoc.reg barS), launch_bar]
  refine sep_mono_right ((bigSep_subset (t := Finset.univ.map ⟨fun k : Fin 7 => SemLoc.dma (recvS k), fun _ _ h => recv_inj h⟩) fun x hx => ?_).trans ?_)
  · obtain ⟨k, -, rfl⟩ := Finset.mem_map.mp hx
    exact Finset.mem_erase.mpr ⟨dma_ne_bar _, Finset.mem_univ _⟩
  · rw [bigSep_map]
    refine bigSep_mono fun k _ => ?_
    show cred (tallyOn (recvCell c k) (launchCredit (Pipeline.owing O₀) 0 (recvCell c k))) ⊢ cred (tallyAt (recvCell c k) () N)
    rw [launch_recv]

/-! ## Entering and leaving the kernel -/

def start (c : Dev nD) : sProp 𝕄 := iprop(∃ K, records m K ∗ levAts L lv ∗ barGhost c ∗ exGhost c)
/-- The argument the kernel does not read. -/
def spare (c : Dev nD) : sProp 𝕄 := ((c : Thread nD τ).loc main_arg2) ↦{fullShare} m ((c : Thread nD τ).loc main_arg2)

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ spare m c) := by
  rw [Pipeline.unscopedRestP_none, unscopedRest0_eq]
  unfold G' positions payToks start barGhost exGhost rvTodo spare
  iintro ⟨Ha, Hlev, Hcr, -, ⟨%K, HR, ⟨HpB, HpS, HpR⟩, HtB, HtX⟩⟩
  icases (creds (F := F) c) $$ Hcr with ⟨HcB, HcR⟩
  imodintro
  isplitr [Ha]
  · iexists K
    isplitl [HR]; · iexact HR
    isplitl [Hlev]; · iexact Hlev
    isplitl [HtB HcB HpB]
    · isplitl [HtB]; · iexact HtB
      isplitl [HcB] <;> iassumption
    isplitl [HtX]; · iexact HtX
    isplitl [HpR HcR]
    · rw [bigSep_sep']; isplitl [HpR] <;> iassumption
    iexact HpS
  · iexact Ha

/-- A slot's elements are its rectangle's; the seven slots make up the buffer. -/
theorem slot_set (k : Fin 7) : (slotM k).view.set = (slotR k).set := by
  rw [Memref.set_view_squeeze]; exact View.set_slice_whole _ _
abbrev slotOff (k : Fin 7) : Fin S7x2x2048.rank → ℕ := ![k.val, 0, 0]
theorem slots_disjoint (b b' : Fin 7) (h : b ≠ b') : Disjoint (slotR b).set (slotR b').set :=
  Ring.lead_disjoint (s := S7x2x2048) (0 : Fin 3) 1 slotOff S1x2x2048.size inb_slot (fun b => (Nat.one_mul b.val).symm) rfl b b' h
theorem slots_cover : Finset.univ.biUnion (fun b : Fin 7 => (slotR b).set) = Finset.univ :=
  Ring.lead_cover (s := S7x2x2048) (0 : Fin 3) 1 slotOff S1x2x2048.size inb_slot (fun b => (Nat.one_mul b.val).symm)
    (by decide) rfl (by decide) rfl

/-- Slot `k` as a part of the whole buffer. -/
def part (c : Dev nD) (k : Fin 7) (f : Buf (Elt F) ((c : Thread nD τ).loc cc0_scratch1)) : sProp 𝕄 :=
  ((c : Thread nD τ).loc cc0_scratch1) ↦[(slotR k).set]{fullShare} f

omit [FloatOps F] in
theorem slotPts_eq (c : Dev nD) (k : Fin 7) (f : Buf (Elt F) ((c : Thread nD τ).loc cc0_scratch1)) : slotPts c k f = part c k f := by
  unfold slotPts part; rw [slot_set]
omit [FloatOps F] in
theorem slot_of_part (c : Dev nD) (k : Fin 7) (f) : part c k f ⊢ slotAny (F := F) c k := by
  rw [← slotPts_eq]; unfold slotAny; iintro H; iexists f; iexact H
theorem part_of_slot (c : Dev nD) (k : Fin 7) : slotFull m c k ⊢ iprop(∃ f, part c k f) := by
  unfold slotFull; iintro ⟨%f, -, H⟩; iexists f; iapply (Entails.of_eq (slotPts_eq c k f)); iexact H

/-- The seven slots' elements, as elements of device `c`'s buffer. -/
def slotSet (c : Dev nD) (k : Fin 7) : Finset (Idx ((c : Thread nD τ).loc cc0_scratch1)) := (slotR k).set
theorem slotSet_disjoint (c : Dev nD) (b b' : Fin 7) (h : b ≠ b') : Disjoint (slotSet c b) (slotSet c b') := slots_disjoint b b' h
theorem slotSet_cover (c : Dev nD) : Finset.univ.biUnion (slotSet c) = Finset.univ := by
  refine Finset.eq_univ_of_forall fun i => ?_
  obtain ⟨k, -, hk⟩ := Finset.mem_biUnion.mp (slots_cover ▸ Finset.mem_univ (α := S7x2x2048.Idx) i)
  exact Finset.mem_biUnion.mpr ⟨k, Finset.mem_univ _, hk⟩

omit [FloatOps F] in
theorem slots_split (c : Dev nD) (f : Buf (Elt F) ((c : Thread nD τ).loc cc0_scratch1)) : (((c : Thread nD τ).loc cc0_scratch1) ↦{fullShare} f) ⊢ (mySlots c : sProp 𝕄) := by
  rw [Ring.pointsTo_blocks (slotSet c) (slotSet_disjoint c) (slotSet_cover c) f]
  exact bigSep_mono fun k _ => slot_of_part c k f

theorem slots_join (c : Dev nD) : (bigSep Finset.univ fun k : Fin 7 => slotFull m c k)
    ⊢ iprop(∃ f : Buf (Elt F) ((c : Thread nD τ).loc cc0_scratch1), ((c : Thread nD τ).loc cc0_scratch1) ↦{fullShare} f) :=
  (bigSep_mono fun k _ => part_of_slot m c k).trans
  (Ring.pointsTo_blocks_join_exists (slotSet c) (slotSet_disjoint c) (slotSet_cover c) (m ((c : Thread nD τ).loc cc0_scratch1)))

theorem phi_enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = phiFirst m c from rfl, scopedRest0_eq]
  unfold phiFirst start
  iintro ⟨Hs, -, ⟨%f, Ha⟩, ⟨%g, Hc⟩⟩
  isplitl [Hs]; · iexact Hs
  isplitl [Hc]; · iapply (slots_split c g); iexact Hc
  iexists f; rw [accPts_eq]; iexact Ha

theorem phi_leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = phiLast m c from rfl, scopedRest0_eq, ownSems0_eq, unscopedSems0_eq]
  unfold phiLast rvDone
  rw [bigSep_sep']
  iintro ⟨Ha, ⟨Hr, Hsl⟩, Hs, Hb⟩
  isplitl [Hb]; · iexact Hb
  isplitl [Hs Hr]
  · isplitl [Hs] <;> iassumption
  isplitl [Ha]
  · iexists (own m c); rw [← accPts_eq]; iexact Ha
  iapply (slots_join m c); iexact Hsl

theorem owedN_pos (c : Dev nD) (n : ℕ) : ∀ g u, 0 < owedN c n g u → (∃ k, g = recvCell (sh c k) k) ∨ ∃ k, g = barCell (sh c k) := by
  intro g u h
  rcases n with _ | n
  · exact O₀_pos h
  · by_cases hn : n < 7
    · rw [owedN_mid c n hn] at h; exact .inl (owesR_pos h)
    · rw [show owedN c (n + 1) = 0 from if_neg hn] at h; exact absurd h (Nat.lt_irrefl 0)

theorem waits (c : Dev nD) : (levAts L lv : sProp 𝕄) ⊢ Pipeline.cellsWaits cfgs (dats m) () 0 c :=
  Pipeline.cellsWaits_intro cfgs (dats m) () 0 c fun w s t =>
    mayWait_stage c _ (by revert w s; decide) _ (owedN_pos c t.val)

/-! ## The run -/

/-- What device `c`'s window arrays hold at the end. -/
def finalA (c : Dev nD) (w : Fin cfg0.W) : Buf (Elt F) ((cfg0.win w).arr.view.loc (c : Thread nD τ)) := (dats m 0 c).arrAt w cfg0.N

/-- What holds of device `c` at the end: its window arrays at the final contents, the argument the kernel does not read unchanged. -/
def Ends (c : Dev nD) (s : MemSt nD τ sig (Elt F)) : Prop :=
  (∀ w : Fin cfg0.W, s.mem ((cfg0.win w).arr.view.loc (c : Thread nD τ)) = finalA m c w)
    ∧ s.mem ((c : Thread nD τ).loc main_arg2) = m ((c : Thread nD τ).loc main_arg2)

set_option maxRecDepth 8000 in
/-- The eight devices run to the end from any memory with zero counters, and end as `Ends` says with every counter zero. -/
theorem run_main (ρ : Dev nD → PrngReg) :
    θ_run defs (onTc (τ := τ) (main (F := F))) ⟨m, fun _ => 0, ρ⟩ (fun r => (∀ c, Ends m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      icases (ownU_pair _ _) $$ Hu with ⟨HP, HX⟩
      imod (fund_exchange m) $$ HX with HG
      imodintro
      isplitl [HP] <;> iassumption)
    (hglob := glob m)
    (hA := fun _ _ => rfl) (hpf := fun _ k => k.elim0)
    (X := start m) (Y := fun c => unscopedSems0 c) (Z := spare m)
    (hX := start_intro m ρ) (hin := phi_enter m) (hout := phi_leave m)
    (QY := fun c s => (∀ sm : SemLoc sig, sm.isScoped .tc = false → s.sem ((c.tc : Thread nD τ), sm) = 0)
      ∧ s.mem ((c : Thread nD τ).loc main_arg2) = m ((c : Thread nD τ).loc main_arg2))
    (hY := fun c s' => by
      unfold spare
      iintro ⟨Hu, Hz, HSI⟩
      imod (Pipeline.unscopedSems0_read (X := unscopedSems0 c) (c := c) fupd_intro s') $$ [Hu HSI] with ⟨%h, HSI⟩
      · isplitl [Hu] <;> iassumption
      ihave %h2 := (SI_pointsTo_agree (st := s')) $$ [HSI Hz]
      · isplitl [HSI] <;> iassumption
      imodintro
      isplitr [HSI]
      · ipureintro; exact ⟨h, Buf.eq_of_forall_mem_univ h2⟩
      · iexact HSI)
    (hQ := fun _ h hs => ⟨fun c => ⟨(h c).1, (h c).2.2.2⟩, sem_eq_zero hs fun c => (h c).2.2.1⟩)

/-- The inputs' arrays are what they were. -/
theorem finalA_x (c : Dev nD) : finalA m c 0 = m ((c : Thread nD τ).loc main_arg0) := (dats (F := F) m 0 c).arrAt_in 0 rfl _
theorem finalA_dy (c : Dev nD) : finalA m c 1 = m ((c : Thread nD τ).loc main_arg1) := (dats (F := F) m 0 c).arrAt_in 1 rfl _

end Cert.ExchangeProof

end
-- ==== Proof.ValueBlock.lean ====
/-
  What one block of rows contributes at the extended reals: a row is normalised by its own mean and variance, and the
  two lines of the contribution are the columns' sums of `dy` times the normalised rows and of `dy`.
-/
module

public import proofs.«01_k».proof.Proof.Mesh
public import Idealize.ShloMosaic.Lib.Pointwise

@[expose] public section

noncomputable section

namespace Cert.ExchangeProof

open Cert.KernelIdeal Cert.KernelIdeal.Gen
open Idealize.ShloMosaic Idealize.ShloMosaic.TcCoe
open scoped BigOperators

/-- The number of columns, 2048, as both programs write it. -/
abbrev width : EReal := Ideal.ofBits .f32 0x45000000#32

/-- The small constant under the root. -/
abbrev small : EReal := Ideal.ofBits .f32 0x3727C5AC#32

/-- A row's mean. -/
def rowMean (r : Fin 2048 → EReal) : EReal := Ideal.div (∑ k, r k) width

/-- The mean of the squares of a row's deviations from its mean. -/
def rowVar (r : Fin 2048 → EReal) : EReal :=
  Ideal.div (∑ k, (r k - rowMean r) * (r k - rowMean r)) width

/-- A row normalised. -/
def rowHat (r : Fin 2048 → EReal) (j : Fin 2048) : EReal :=
  (r j - rowMean r) * Ideal.rsqrt (rowVar r + small)

/-- A block's contribution, first line. -/
theorem pay5_fst (x dy : FVec Ideal S512x2048 .f32) (j : Fin 2048) :
    k0_pay5 (F := Ideal) x dy (ix2 (0 : Fin 2) j) = ∑ i : Fin 512, dy (ix2 i j) * rowHat (fun k => x (ix2 i k)) j := by
  pointwise [k0_pay5]
  rfl

/-- A block's contribution, second line. -/
theorem pay5_snd (x dy : FVec Ideal S512x2048 .f32) (j : Fin 2048) :
    k0_pay5 (F := Ideal) x dy (ix2 (1 : Fin 2) j) = ∑ i : Fin 512, dy (ix2 i j) := by
  pointwise [k0_pay5]

end Cert.ExchangeProof

end
-- ==== Proof.ValueKernel.lean ====
/-
  What the kernel's result array holds at the extended reals: at each column, the sum over the eight devices, their
  eight blocks and each block's 512 rows.
-/
module

public import proofs.«01_k».proof.Proof.Launch
public import proofs.«01_k».proof.Proof.ValueBlock
public import Idealize.ShloMosaic.Lib.Pipeline.ValueKit

@[expose] public section

noncomputable section

namespace Cert.ExchangeProof

open Cert.KernelIdeal Cert.KernelIdeal.Gen
open Idealize.ShloMosaic Idealize.ShloMosaic.TcCoe
open scoped BigOperators

section Blocks

variable {F : FTy → Type} [FloatOps F] (m : (ℓ : Loc nD τ sig) → Buf (Elt F) ℓ)

/-- Which block of rows the windows hand to grid point `t`. -/
theorem index_x : ∀ t : Fin cfg0.N, win0_0.index t = ![t.val, 0] := by decide +kernel
theorem index_dy : ∀ t : Fin cfg0.N, win0_1.index t = ![t.val, 0] := by decide +kernel

/-- Row `i` of block `t` of a device's 4096 rows. -/
def blkRow (t : Fin 8) (i : Fin 512) : Fin 4096 := ⟨t.val * 512 + i.val, by omega⟩

theorem xAt_apply (c : Dev nD) (t : Fin 8) (i : Fin 512) (j : Fin 2048) :
    xAt m c (gp t.val) (ix2 i j) = m ((c : Thread nD τ).loc main_arg0) (ix2 (blkRow t i) j) := by
  have ht : t.val % 8 = t.val := Nat.mod_eq_of_lt t.isLt
  unfold xAt blkRow gp
  blk_ext [index_x, ht]

theorem dyAt_apply (c : Dev nD) (t : Fin 8) (i : Fin 512) (j : Fin 2048) :
    dyAt m c (gp t.val) (ix2 i j) = m ((c : Thread nD τ).loc main_arg1) (ix2 (blkRow t i) j) := by
  have ht : t.val % 8 = t.val := Nat.mod_eq_of_lt t.isLt
  unfold dyAt blkRow gp
  blk_ext [index_dy, ht]

/-- The result's one block is its whole array, written back after the last grid point. -/
theorem finalA_out (c : Dev nD) : finalA m c 2 = outAt m c := by
  unfold finalA
  refine (dats m 0 c).arrAt_eq_of_after_last 2 (gp 7) (by decide +kernel) _ fun j => ?_
  blk_simp
  rfl

end Blocks

section Sums

variable (m : (ℓ : Loc nD τ sig) → Buf (Elt Ideal) ℓ)

/-- One block's contribution. -/
abbrev contribution (c : Dev nD) (t : ℕ) : FVec Ideal S2x2048 .f32 := k0_pay5 (xAt m c (gp t)) (dyAt m c (gp t))

/-- Casting to the same shape changes nothing. -/
theorem pay6_eq (x dy : FVec Ideal S512x2048 .f32) : k0_pay6 (F := Ideal) x dy = k0_pay5 (F := Ideal) x dy := by
  funext i
  unfold k0_pay6
  pointwise

theorem pay1_apply (u v : FVec Ideal S2x2048 .f32) (i : S2x2048.Idx) : k0_pay1 (F := Ideal) u v i = v i + u i := by
  pointwise [k0_pay1]

/-- A device's sum is the sum of its blocks' contributions. -/
theorem acc_apply (c : Dev nD) (n : ℕ) (i : S2x2048.Idx) : accUpTo m c n i = ∑ t : Fin (n + 1), contribution m c t.val i := by
  induction n with
  | zero => rw [accUpTo, pay6_eq]; simp
  | succ n ih => rw [accUpTo, pay1_apply, ih, Fin.sum_univ_castSucc (n := n + 1)]; rfl

/-- The kernel's total on any device is the sum of all the devices' sums. -/
theorem out_apply (c : Dev nD) (i : S2x2048.Idx) : outAt m c i = ∑ d : Dev nD, own m d i := by
  have h : outAt m c i = own m c i + own m (rs c 0) i + own m (rs c 1) i + own m (rs c 2) i + own m (rs c 3) i
      + own m (rs c 4) i + own m (rs c 5) i + own m (rs c 6) i := rfl
  refine h.trans (Eq.trans ?_ (Fin.sum_univ_eight (fun d : Fin 8 => own m d i)).symm)
  have hall : ∀ f : Fin 8 → EReal, ∀ c : Fin 8, f c + f (rs c 0) + f (rs c 1) + f (rs c 2) + f (rs c 3)
      + f (rs c 4) + f (rs c 5) + f (rs c 6) = f 0 + f 1 + f 2 + f 3 + f 4 + f 5 + f 6 + f 7 := by
    intro f c
    have e0 : ∀ c : Fin 8, (rs c 0 : Fin 8) = c + 7 := by decide
    have e1 : ∀ c : Fin 8, (rs c 1 : Fin 8) = c + 6 := by decide
    have e2 : ∀ c : Fin 8, (rs c 2 : Fin 8) = c + 5 := by decide
    have e3 : ∀ c : Fin 8, (rs c 3 : Fin 8) = c + 4 := by decide
    have e4 : ∀ c : Fin 8, (rs c 4 : Fin 8) = c + 3 := by decide
    have e5 : ∀ c : Fin 8, (rs c 5 : Fin 8) = c + 2 := by decide
    have e6 : ∀ c : Fin 8, (rs c 6 : Fin 8) = c + 1 := by decide
    have hsum : ∑ k : Fin 8, f (c + k) = ∑ k : Fin 8, f k := Equiv.sum_comp (Equiv.addLeft c) f
    rw [Fin.sum_univ_eight, Fin.sum_univ_eight] at hsum
    rw [e0, e1, e2, e3, e4, e5, e6, ← hsum, add_zero]
    abel
  exact hall (fun d => own m d i) c

/-- Device `c`'s arguments, as arrays of extended reals. -/
abbrev argX (c : Dev nD) : FVec Ideal S4096x2048 .f32 := m ((c : Thread nD τ).loc main_arg0)
abbrev argDy (c : Dev nD) : FVec Ideal S4096x2048 .f32 := m ((c : Thread nD τ).loc main_arg1)

/-- The result's first line, in terms of the devices' arguments. -/
theorem out_fst (c : Dev nD) (j : Fin 2048) :
    outAt m c (ix2 (0 : Fin 2) j) = ∑ d : Dev nD, ∑ t : Fin 8, ∑ i : Fin 512,
      argDy m d (ix2 (blkRow t i) j)
        * rowHat (fun k => argX m d (ix2 (blkRow t i) k)) j := by
  rw [out_apply]
  refine Finset.sum_congr rfl fun d _ => (acc_apply m d 7 _).trans (Finset.sum_congr rfl fun t _ => ?_)
  refine (pay5_fst _ _ j).trans (Finset.sum_congr rfl fun i _ => ?_)
  congr 1
  · exact dyAt_apply m d t i j
  · exact congrArg (fun r => rowHat r j) (funext fun k => xAt_apply m d t i k)

/-- The result's second line. -/
theorem out_snd (c : Dev nD) (j : Fin 2048) :
    outAt m c (ix2 (1 : Fin 2) j) = ∑ d : Dev nD, ∑ t : Fin 8, ∑ i : Fin 512,
      argDy m d (ix2 (blkRow t i) j) := by
  rw [out_apply]
  refine Finset.sum_congr rfl fun d _ => (acc_apply m d 7 _).trans (Finset.sum_congr rfl fun t _ => ?_)
  exact (pay5_snd _ _ j).trans (Finset.sum_congr rfl fun i _ => dyAt_apply m d t i j)

end Sums

end Cert.ExchangeProof

end
-- ==== Proof.ValueReference.lean ====
/-
  What the reference computes at the extended reals, index by index: the same normalised rows, its quotient
  `1 / sqrt` the kernel's reciprocal root because what is under the root is positive.
-/
module

public import proofs.«01_k».proof.Proof.ValueBlock
public import proofs.«01_k».proof.Proof.Gen.ReferenceIdeal.Run

@[expose] public section

noncomputable section

namespace Cert.ExchangeProof

open Idealize.ShloMosaic Idealize.ShloMosaic.TcCoe
open scoped BigOperators

theorem width_eq : width = ((2048 : ℝ) : EReal) := by
  simp [width, Ideal.ofBits, Ideal.ieee]
  rw [← EReal.coe_mul]; norm_num

theorem width_pos : 0 < width := by
  rw [width_eq]; exact_mod_cast (by norm_num : (0 : ℝ) < 2048)

theorem small_pos : 0 < small := by
  simp [small, Ideal.ofBits, Ideal.ieee]
  rw [← EReal.coe_mul]; exact_mod_cast (by norm_num)

/-- A square is not negative. -/
theorem mul_self_nonneg_ereal (a : EReal) : 0 ≤ a * a := by
  induction a with
  | bot => simp
  | top => simp
  | coe r => exact_mod_cast mul_self_nonneg r

theorem rowVar_nonneg (r : Fin 2048 → EReal) : 0 ≤ rowVar r := by
  unfold rowVar
  rw [width_eq, Ideal.div_coe (by norm_num)]
  exact mul_nonneg (Finset.sum_nonneg fun k _ => mul_self_nonneg_ereal _) (by exact_mod_cast (by norm_num : (0:ℝ) ≤ 1 / 2048))

/-- Off the negatives and zero the reciprocal root is one over the root. -/
theorem one_div_sqrt (a : EReal) (ha : 0 < a) : Ideal.div 1 (Ideal.sqrt a) = Ideal.rsqrt a := by
  induction a with
  | bot => simp at ha
  | top => simp [Ideal.div]
  | coe r =>
    have hr : 0 < r := by exact_mod_cast ha
    have hs : Real.sqrt r ≠ 0 := (Real.sqrt_pos.mpr hr).ne'
    rw [Ideal.sqrt_coe, Ideal.rsqrt_coe, if_neg (not_lt.mpr hr.le), if_neg (not_lt.mpr hr.le), if_neg hr.ne', Ideal.div_coe hs]
    rw [one_mul, one_div]

section Reference

open Cert.ReferenceIdeal Cert.ReferenceIdeal.Gen

variable (x dy : FVec Ideal S32768x2048 .f32)

/-- A scalar on every row. -/
abbrev onRows (v : FVec Ideal S_ .f32) : FVec Ideal S32768x1 .f32 := broadcastInDim S32768x1 ![] bcast_S_S32768x1 v

/-- A row's number on every column. -/
abbrev onCols (v : FVec Ideal S32768x1 .f32) : FVec Ideal S32768x2048 .f32 :=
  broadcastInDim S32768x2048 ![0, 1] bcast_S32768x1_S32768x2048_0_1 v

/-- The rows' sums, as a column. -/
abbrev rowSums (v : FVec Ideal S32768x2048 .f32) : FVec Ideal S32768x1 .f32 :=
  broadcastInDim S32768x1 ![0] bcast_S32768_S32768x1_0
    (Host.reduceAdd v (constant S_ .f32 0x00000000#32) reducesTo_S32768x2048_S32768_d1 h_S_)

/-- The columns' sums, as a line. -/
abbrev colSums (v : FVec Ideal S32768x2048 .f32) : FVec Ideal S1x2048 .f32 :=
  broadcastInDim S1x2048 ![1] bcast_S2048_S1x2048_1
    (Host.reduceAdd v (constant S_ .f32 0x00000000#32) reducesTo_S32768x2048_S2048_d0 h_S_)

/-- The divisor of the variance: 2048 less a correction of zero. -/
def divisor : FVec Ideal S_ .f32 := subf (constant S_ .f32 0x45000000#32) (sitofp .f32 (constantI S_ 32 0#32))

/-- The deviations from the rows' means. -/
def deviations : FVec Ideal S32768x2048 .f32 := subf x (onCols (Host.divf (rowSums x) (onRows (constant S_ .f32 0x45000000#32))))

/-- The rows' variances. -/
def variances : FVec Ideal S32768x1 .f32 :=
  select (broadcastInDim S32768x1 ![] bcast_S_S32768x1 (cmpf .ogt divisor (constant S_ .f32 0x00000000#32)))
    (Host.divf (rowSums (mulf (deviations x) (deviations x))) (onRows divisor)) (onRows (id (constant S_ .f32 0x7FC00000#32)))

/-- The normalised rows. -/
def normalised : FVec Ideal S32768x2048 .f32 :=
  mulf (deviations x) (onCols (Host.divf (onRows (constant S_ .f32 0x3F800000#32))
    (Host.sqrt (addf (variances x) (onRows (constant S_ .f32 0x3727C5AC#32))))))

/-- The reference's result. -/
def refOut : FVec Ideal S2x2048 .f32 :=
  concatenate S2x2048 0 [⟨S1x2048, colSums (mulf dy (normalised x))⟩, ⟨S1x2048, colSums dy⟩] concatenates_S1x2048_S1x2048_S2x2048_d0

theorem deviations_apply (n : Fin 32768) (j : Fin 2048) :
    deviations x (ix2 n j) = x (ix2 n j) - rowMean (fun k => x (ix2 n k)) := by
  pointwise [deviations]
  simp [rowMean]

theorem divisor_apply (i : S_.Idx) : divisor i = width := by
  show width - (((0#32 : BitVec 32).toInt : ℝ) : EReal) = width
  simp

theorem variances_apply (n : Fin 32768) (z : Fin 1) : variances x (ix2 n z) = rowVar (fun k => x (ix2 n k)) := by
  pointwise [variances, deviations_apply, divisor_apply]
  rw [if_pos width_pos]
  rfl

theorem normalised_apply (n : Fin 32768) (j : Fin 2048) : normalised x (ix2 n j) = rowHat (fun k => x (ix2 n k)) j := by
  pointwise [normalised, deviations_apply, variances_apply]
  rw [one_div_sqrt _ (small_pos.trans_le (le_add_of_nonneg_left (rowVar_nonneg _)))]
  rfl

theorem refOut_fst (j : Fin 2048) :
    refOut x dy (ix2 (0 : Fin 2) j) = ∑ n : Fin 32768, dy (ix2 n j) * rowHat (fun k => x (ix2 n k)) j := by
  pointwise [refOut, normalised_apply]

theorem refOut_snd (j : Fin 2048) : refOut x dy (ix2 (1 : Fin 2) j) = ∑ n : Fin 32768, dy (ix2 n j) := by
  pointwise [refOut]

end Reference

end Cert.ExchangeProof

end
-- ==== Proof.ValueEq.lean ====
/-
  The kernel's result is the reference's: the reference's sum over 32768 rows, cut into the eight devices' rows and
  each device's rows into eight blocks of 512.
-/
module

public import proofs.«01_k».proof.Proof.ValueKernel
public import proofs.«01_k».proof.Proof.ValueReference

@[expose] public section

noncomputable section

namespace Cert.ExchangeProof

open Idealize.ShloMosaic Idealize.ShloMosaic.TcCoe
open scoped BigOperators

/-- Row `r` of device `d`, as a row of the whole array. -/
def wholeRow (d : Fin 8) (r : Fin 4096) : Fin 32768 := ⟨d.val * 4096 + r.val, by omega⟩

/-- A sum over all the rows, by device, block and row of the block. -/
theorem sum_rows (f : Fin 32768 → EReal) :
    ∑ n, f n = ∑ d : Fin 8, ∑ t : Fin 8, ∑ i : Fin 512, f (wholeRow d (blkRow t i)) := by
  rw [Fin.sum_univ_tiles 8 4096 (by norm_num)]
  refine Finset.sum_congr rfl fun d _ => ?_
  exact Fin.sum_univ_tiles 8 512 (by norm_num) fun r => f (wholeRow d r)

/-- A device's entry is the whole array's. -/
theorem block_row (v : (⟨2, ![32768, 2048]⟩ : Shape).Idx → EReal) (d : Fin 8) (r : Fin 4096) (j : Fin 2048) :
    Layout.block ⟨2, ![4096, 2048]⟩ ⟨2, ![32768, 2048]⟩ 0 8 d v (by decide) (ix2 r j) = v (ix2 (wholeRow d r) j) := by
  rw [Layout.block_apply]
  refine congrArg v ?_
  idx_ext

theorem result_eq (m : (ℓ : Loc Cert.KernelIdeal.nD Cert.KernelIdeal.τ Cert.KernelIdeal.sig) → Buf (Elt Ideal) ℓ)
    (x dy : FVec Ideal ⟨2, ![32768, 2048]⟩ .f32)
    (hx : ∀ d : Dev Cert.KernelIdeal.nD, argX m d = Layout.block ⟨2, ![4096, 2048]⟩ ⟨2, ![32768, 2048]⟩ 0 8 d x)
    (hdy : ∀ d : Dev Cert.KernelIdeal.nD, argDy m d = Layout.block ⟨2, ![4096, 2048]⟩ ⟨2, ![32768, 2048]⟩ 0 8 d dy)
    (c : Dev Cert.KernelIdeal.nD) : outAt m c = refOut x dy := by
  have ex : ∀ (d : Fin 8) (r : Fin 4096) (j : Fin 2048), argX m d (ix2 r j) = x (ix2 (wholeRow d r) j) :=
    fun d r j => (congrFun (hx d) _).trans (block_row x d r j)
  have edy : ∀ (d : Fin 8) (r : Fin 4096) (j : Fin 2048), argDy m d (ix2 r j) = dy (ix2 (wholeRow d r) j) :=
    fun d r j => (congrFun (hdy d) _).trans (block_row dy d r j)
  have fst : ∀ j : Fin 2048, outAt m c (ix2 (0 : Fin 2) j) = refOut x dy (ix2 (0 : Fin 2) j) := fun j => by
    rw [out_fst, refOut_fst, sum_rows]
    refine Finset.sum_congr rfl fun d _ => Finset.sum_congr rfl fun t _ => Finset.sum_congr rfl fun i _ => ?_
    exact congrArg₂ (· * ·) (edy d _ j) (congrArg (fun r => rowHat r j) (funext fun k => ex d _ k))
  have snd : ∀ j : Fin 2048, outAt m c (ix2 (1 : Fin 2) j) = refOut x dy (ix2 (1 : Fin 2) j) := fun j => by
    rw [out_snd, refOut_snd, sum_rows]
    exact Finset.sum_congr rfl fun d _ => Finset.sum_congr rfl fun t _ => Finset.sum_congr rfl fun i _ => edy d _ j
  funext i
  rw [eq_ix2 i]
  generalize i 1 = j
  generalize i 0 = a
  match a with
  | ⟨0, _⟩ => exact fst j
  | ⟨1, _⟩ => exact snd j

end Cert.ExchangeProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.ValueEq
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- What the kernel's run leaves, read off its final state: the result and the three arguments. -/
theorem ends_read {F : FTy → Type} [FloatOps F]
    {m : (ℓ : Loc Cert.KernelIdeal.nD Cert.KernelIdeal.τ Cert.KernelIdeal.sig) → Buf (Elt F) ℓ} {c : Dev Cert.KernelIdeal.nD}
    {s : MemSt Cert.KernelIdeal.nD Cert.KernelIdeal.τ Cert.KernelIdeal.sig (Elt F)} (h : Cert.ExchangeProof.Ends m c s) :
    s.mem ((c.tc : Thread Cert.KernelIdeal.nD Cert.KernelIdeal.τ).loc Cert.KernelIdeal.main_v1) = Cert.ExchangeProof.outAt m c
    ∧ s.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ s.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ s.mem ((c.tc : Thread Cert.KernelIdeal.nD Cert.KernelIdeal.τ).loc Cert.KernelIdeal.main_arg2) = m ((c.tc : Thread Cert.KernelIdeal.nD Cert.KernelIdeal.τ).loc Cert.KernelIdeal.main_arg2) :=
  ⟨(h.1 2).trans (Cert.ExchangeProof.finalA_out m c), (h.1 0).trans (Cert.ExchangeProof.finalA_x m c),
    (h.1 1).trans (Cert.ExchangeProof.finalA_dy m c), h.2⟩

/-- The kernel at any float values: it ends with its arguments unchanged and every counter zero. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c => (ends_read (h.1 c)).2, h.2⟩) (Cert.ExchangeProof.run_main m ρ)

/-- The two printed kernels are the same program: their body tables agree label by label, -/
theorem bodies_eq {F : FTy → Type} [FloatOps F] : Cert.Kernel.defs₀ (F := F) = Cert.KernelIdeal.defs₀ (F := F) :=
  congrArg Defs.onTc (funext fun l => funext fun a => by
    match l, a with
    | 0, (t, s) => rfl
    | ⟨_ + 1, h⟩, _ => exact absurd h (Nat.not_lt.2 (Nat.le_add_left _ _)))

/-- so their whole tables do, -/
theorem tables_eq {F : FTy → Type} [FloatOps F] : Cert.Kernel.defs (F := F) = Cert.KernelIdeal.defs (F := F) :=
  congrArg (fun d => Pipeline.defs (Cert.KernelIdeal.pcfgs (F := F)) d) bodies_eq

/-- and the bit-exact kernel's frame is the same run at the bit-exact values. -/
theorem frame_kernel : Cert.quiescent_Kernel := fun m ρ _ => by
  rw [tables_eq]
  exact frame_any (F := Bits) m ρ

theorem frame_ideal : Cert.quiescent_KernelIdeal := fun m ρ _ => frame_any (F := Ideal) m ρ

/-- The reference has no semaphore at all. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals both programs end with the reference's result. -/
theorem algebraic : Cert.algebraic_KernelIdeal_ReferenceIdeal := fun m ρ m' ρ' _ hagree =>
  ⟨Cert.ExchangeProof.refOut _ _,
    (θ_run Cert.KernelIdeal.defs _ _).mono
      (fun _ h c => ⟨(ends_read (h.1 c)).1.trans
        (Cert.ExchangeProof.result_eq m _ _ (fun d => (hagree d).1) (fun d => (hagree d).2.1) c), (ends_read (h.1 c)).2⟩)
      (Cert.ExchangeProof.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, algebraic⟩

end Cert.Proof

end
